-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S8x128x4096 : Shape := ⟨3, ![8, 128, 4096]⟩
abbrev S16 : Shape := ⟨1, ![16]⟩
abbrev S15 : Shape := ⟨1, ![15]⟩
abbrev S_ : Shape := ⟨0, ![]⟩
abbrev S6x8x128 : Shape := ⟨3, ![6, 8, 128]⟩
abbrev S5 : Shape := ⟨1, ![5]⟩
abbrev S1 : Shape := ⟨1, ![1]⟩
abbrev S1x128x4096 : Shape := ⟨3, ![1, 128, 4096]⟩
abbrev S128x256 : Shape := ⟨2, ![128, 256]⟩
abbrev S1x128x256 : Shape := ⟨3, ![1, 128, 256]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S128x4096, .f32⟩
  | .hbm, ⟨1, _⟩ => ⟨S4096x256, .f32⟩
  | .hbm, ⟨2, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S4096x256, .f32⟩
  | .local _ .vmem, ⟨3, _⟩ => ⟨S8x128x4096, .f32⟩
  | .local _ .vmem, ⟨4, _⟩ => ⟨S8x128x4096, .f32⟩
  | .local _ .vmem, ⟨5, _⟩ => ⟨S6x8x128, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 3 75 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch8 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_6 : BitVec 32 := 32#32
  let v14 : BitVec 32 := Scalar.addi v2 c32_i32_6
  let c1_i32_7 : BitVec 32 := 1#32
  let v15 : BitVec 32 := Scalar.subi v14 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_16 : BitVec 32 := 1#32
  let v32 : BitVec 32 := Scalar.muli v25 c1_i32_16
  let v33 : BitVec 32 := Scalar.addi c0_i32_17 v32
  v33.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19 : BitVec 32 := 1#32
  let v34 : BitVec 32 := Scalar.muli v13 c1_i32_19
  let v35 : BitVec 32 := Scalar.addi c0_i32_20 v34
  v35.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v27 : BitVec 32 := Scalar.xori v2 c1_i32_14
  let c1_i32_22 : BitVec 32 := 1#32
  let v36 : BitVec 32 := Scalar.muli v27 c1_i32_22
  let v37 : BitVec 32 := Scalar.addi c0_i32_23 v36
  v37.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v28 : BitVec 32 := Scalar.xori v2 c2_i32
  let c1_i32_25 : BitVec 32 := 1#32
  let v38 : BitVec 32 := Scalar.muli v28 c1_i32_25
  let v39 : BitVec 32 := Scalar.addi c0_i32_26 v38
  v39.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v29 : BitVec 32 := Scalar.xori v2 c4_i32
  let c1_i32_28 : BitVec 32 := 1#32
  let v40 : BitVec 32 := Scalar.muli v29 c1_i32_28
  let v41 : BitVec 32 := Scalar.addi c0_i32_29 v40
  v41.toNat
def k0_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v30 : BitVec 32 := Scalar.xori v2 c8_i32
  let c1_i32_31 : BitVec 32 := 1#32
  let v42 : BitVec 32 := Scalar.muli v30 c1_i32_31
  let v43 : BitVec 32 := Scalar.addi c0_i32_32 v42
  v43.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v31 : BitVec 32 := Scalar.xori v2 c16_i32
  let c1_i32_34 : BitVec 32 := 1#32
  let v44 : BitVec 32 := Scalar.muli v31 c1_i32_34
  let v45 : BitVec 32 := Scalar.addi c0_i32_35 v44
  v45.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_39 : BitVec 32 := 1#32
  let v46 : BitVec 32 := Scalar.muli v13 c1_i32_39
  let v47 : BitVec 32 := Scalar.addi c0_i32_40 v46
  v47.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_6 : BitVec 32 := 32#32
  let v14 : BitVec 32 := Scalar.addi v2 c32_i32_6
  let c1_i32_7 : BitVec 32 := 1#32
  let v15 : BitVec 32 := Scalar.subi v14 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_46 : BitVec 32 := 1#32
  let v54 : BitVec 32 := Scalar.muli v25 c1_i32_46
  let v55 : BitVec 32 := Scalar.addi c0_i32_47 v54
  v55.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v67 : BitVec 32 := Scalar.muli v2 c128_i32
  let v68 : Index := Scalar.indexCast v67
  let c0_53 : Index := 0#32
  ![v68.toNat, 0]
@[reducible] def k0_t1_loop : Scf.Loop 32 :=
  let c1_i32_81 : BitVec 32 := 1#32
  let c14_i32 : BitVec 32 := 14#32
  let v95 : BitVec 32 := Scalar.addi c1_i32_81 c14_i32
  let c1_i32_82 : BitVec 32 := 1#32
  ⟨c1_i32_81, v95, c1_i32_82⟩
def k0_off2 (k0_t1 : Fin k0_t1_loop.trips) : Fin 1 → Nat :=
  let c1_i32_81 : BitVec 32 := 1#32
  let c1_i32_82 : BitVec 32 := 1#32
  let arg14 : BitVec 32 := Scf.iv c1_i32_81 c1_i32_82 k0_t1
  ![arg14.toNat]
def k0_off3 (k0_t1 : Fin k0_t1_loop.trips) : Fin 3 → Nat :=
  let c1_i32_81 : BitVec 32 := 1#32
  let c1_i32_82 : BitVec 32 := 1#32
  let arg14 : BitVec 32 := Scf.iv c1_i32_81 c1_i32_82 k0_t1
  let c8_i32_350 : BitVec 32 := 8#32
  let c0_i32_351 : BitVec 32 := 0#32
  let v385 : BitVec 1 := Scalar.cmpi .eq c8_i32_350 c0_i32_351
  let c1_i32_352 : BitVec 32 := 1#32
  let v386 : BitVec 32 := Scalar.select v385 c1_i32_352 c8_i32_350
  let v387 : BitVec 32 := Scalar.remsi arg14 v386
  let c0_i32_354 : BitVec 32 := 0#32
  let v389 : BitVec 1 := Scalar.cmpi .slt v387 c0_i32_354
  let c0_i32_355 : BitVec 32 := 0#32
  let v390 : BitVec 1 := Scalar.cmpi .slt v386 c0_i32_355
  let v391 : BitVec 1 := Scalar.xori v389 v390
  let c0_i32_353 : BitVec 32 := 0#32
  let v388 : BitVec 1 := Scalar.cmpi .ne v387 c0_i32_353
  let v392 : BitVec 1 := Scalar.andi v391 v388
  let v393 : BitVec 32 := Scalar.addi v387 v386
  let v394 : BitVec 32 := Scalar.select v392 v393 v387
  let c0_i32_371 : BitVec 32 := 0#32
  let c0_i32_372 : BitVec 32 := 0#32
  ![v394.toNat, 0, 0]
def k0_off4 (k0_t1 : Fin k0_t1_loop.trips) : Fin 3 → Nat :=
  let c1_i32_81 : BitVec 32 := 1#32
  let c1_i32_82 : BitVec 32 := 1#32
  let arg14 : BitVec 32 := Scf.iv c1_i32_81 c1_i32_82 k0_t1
  let c1_i32_343 : BitVec 32 := 1#32
  let v374 : BitVec 32 := Scalar.subi arg14 c1_i32_343
  let c8_i32_344 : BitVec 32 := 8#32
  let c0_i32_345 : BitVec 32 := 0#32
  let v375 : BitVec 1 := Scalar.cmpi .eq c8_i32_344 c0_i32_345
  let c1_i32_346 : BitVec 32 := 1#32
  let v376 : BitVec 32 := Scalar.select v375 c1_i32_346 c8_i32_344
  let v377 : BitVec 32 := Scalar.remsi v374 v376
  let c0_i32_348 : BitVec 32 := 0#32
  let v379 : BitVec 1 := Scalar.cmpi .slt v377 c0_i32_348
  let c0_i32_349 : BitVec 32 := 0#32
  let v380 : BitVec 1 := Scalar.cmpi .slt v376 c0_i32_349
  let v381 : BitVec 1 := Scalar.xori v379 v380
  let c0_i32_347 : BitVec 32 := 0#32
  let v378 : BitVec 1 := Scalar.cmpi .ne v377 c0_i32_347
  let v382 : BitVec 1 := Scalar.andi v381 v378
  let v383 : BitVec 32 := Scalar.addi v377 v376
  let v384 : BitVec 32 := Scalar.select v382 v383 v377
  let c0_i32_373 : BitVec 32 := 0#32
  let c0_i32_374 : BitVec 32 := 0#32
  ![v384.toNat, 0, 0]
def k0_dev10 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_369 : BitVec 32 := 1#32
  let v416 : BitVec 32 := Scalar.muli v13 c1_i32_369
  let v417 : BitVec 32 := Scalar.addi c0_i32_370 v416
  v417.toNat
def k0_off5 (k0_t1 : Fin k0_t1_loop.trips) : Fin 1 → Nat :=
  let c1_i32_81 : BitVec 32 := 1#32
  let c1_i32_82 : BitVec 32 := 1#32
  let arg14 : BitVec 32 := Scf.iv c1_i32_81 c1_i32_82 k0_t1
  ![arg14.toNat]
def k0_dev11 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_6 : BitVec 32 := 32#32
  let v14 : BitVec 32 := Scalar.addi v2 c32_i32_6
  let c1_i32_7 : BitVec 32 := 1#32
  let v15 : BitVec 32 := Scalar.subi v14 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_375 : BitVec 32 := 1#32
  let v426 : BitVec 32 := Scalar.muli v25 c1_i32_375
  let v427 : BitVec 32 := Scalar.addi c0_i32_376 v426
  v427.toNat
def k0_off6 (k0_t1 : Fin k0_t1_loop.trips) : Fin 3 → Nat :=
  let c1_i32_81 : BitVec 32 := 1#32
  let c1_i32_82 : BitVec 32 := 1#32
  let arg14 : BitVec 32 := Scf.iv c1_i32_81 c1_i32_82 k0_t1
  let c1_i32_388 : BitVec 32 := 1#32
  let v448 : BitVec 32 := Scalar.subi arg14 c1_i32_388
  let c8_i32_389 : BitVec 32 := 8#32
  let c0_i32_390 : BitVec 32 := 0#32
  let v449 : BitVec 1 := Scalar.cmpi .eq c8_i32_389 c0_i32_390
  let c1_i32_391 : BitVec 32 := 1#32
  let v450 : BitVec 32 := Scalar.select v449 c1_i32_391 c8_i32_389
  let v451 : BitVec 32 := Scalar.remsi v448 v450
  let c0_i32_393 : BitVec 32 := 0#32
  let v453 : BitVec 1 := Scalar.cmpi .slt v451 c0_i32_393
  let c0_i32_394 : BitVec 32 := 0#32
  let v454 : BitVec 1 := Scalar.cmpi .slt v450 c0_i32_394
  let v455 : BitVec 1 := Scalar.xori v453 v454
  let c0_i32_392 : BitVec 32 := 0#32
  let v452 : BitVec 1 := Scalar.cmpi .ne v451 c0_i32_392
  let v456 : BitVec 1 := Scalar.andi v455 v452
  let v457 : BitVec 32 := Scalar.addi v451 v450
  let v458 : BitVec 32 := Scalar.select v456 v457 v451
  let v459 : Index := Scalar.indexCast v458
  let c0_395 : Index := 0#32
  let c0_396 : Index := 0#32
  ![v459.toNat, 0, 0]
def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_381 : BitVec 32 := 32#32
  let v436 : BitVec 32 := Scalar.addi v2 c32_i32_381
  let c1_i32_81 : BitVec 32 := 1#32
  let c1_i32_82 : BitVec 32 := 1#32
  let arg14 : BitVec 32 := Scf.iv c1_i32_81 c1_i32_82 k0_t1
  let v437 : BitVec 32 := Scalar.subi v436 arg14
  let c32_i32_382 : BitVec 32 := 32#32
  let c0_i32_383 : BitVec 32 := 0#32
  let v438 : BitVec 1 := Scalar.cmpi .eq c32_i32_382 c0_i32_383
  let c1_i32_384 : BitVec 32 := 1#32
  let v439 : BitVec 32 := Scalar.select v438 c1_i32_384 c32_i32_382
  let v440 : BitVec 32 := Scalar.remsi v437 v439
  let c0_i32_386 : BitVec 32 := 0#32
  let v442 : BitVec 1 := Scalar.cmpi .slt v440 c0_i32_386
  let c0_i32_387 : BitVec 32 := 0#32
  let v443 : BitVec 1 := Scalar.cmpi .slt v439 c0_i32_387
  let v444 : BitVec 1 := Scalar.xori v442 v443
  let c0_i32_385 : BitVec 32 := 0#32
  let v441 : BitVec 1 := Scalar.cmpi .ne v440 c0_i32_385
  let v445 : BitVec 1 := Scalar.andi v444 v441
  let v446 : BitVec 32 := Scalar.addi v440 v439
  let v447 : BitVec 32 := Scalar.select v445 v446 v440
  let c128_i32_400 : BitVec 32 := 128#32
  let v465 : BitVec 32 := Scalar.muli v447 c128_i32_400
  let v466 : Index := Scalar.indexCast v465
  let c0_401 : Index := 0#32
  ![v466.toNat, 0]
def k0_off8 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let c1_i32_82 : BitVec 32 := 1#32
  let arg14 : BitVec 32 := Scf.iv c1_i32_81 c1_i32_82 k0_t1
  let v474 : BitVec 32 := Scalar.addi v2 arg14
  let c32_i32_403 : BitVec 32 := 32#32
  let c0_i32_404 : BitVec 32 := 0#32
  let v475 : BitVec 1 := Scalar.cmpi .eq c32_i32_403 c0_i32_404
  let c1_i32_405 : BitVec 32 := 1#32
  let v476 : BitVec 32 := Scalar.select v475 c1_i32_405 c32_i32_403
  let v477 : BitVec 32 := Scalar.remsi v474 v476
  let c0_i32_407 : BitVec 32 := 0#32
  let v479 : BitVec 1 := Scalar.cmpi .slt v477 c0_i32_407
  let c0_i32_408 : BitVec 32 := 0#32
  let v480 : BitVec 1 := Scalar.cmpi .slt v476 c0_i32_408
  let v481 : BitVec 1 := Scalar.xori v479 v480
  let c0_i32_406 : BitVec 32 := 0#32
  let v478 : BitVec 1 := Scalar.cmpi .ne v477 c0_i32_406
  let v482 : BitVec 1 := Scalar.andi v481 v478
  let v483 : BitVec 32 := Scalar.addi v477 v476
  let v484 : BitVec 32 := Scalar.select v482 v483 v477
  let c128_i32_421 : BitVec 32 := 128#32
  let v502 : BitVec 32 := Scalar.muli v484 c128_i32_421
  let v503 : Index := Scalar.indexCast v502
  let c0_422 : Index := 0#32
  ![v503.toNat, 0]
def k0_cond2 (k0_t1 : Fin k0_t1_loop.trips) : BitVec 1 :=
  let c1_i32_81 : BitVec 32 := 1#32
  let c1_i32_82 : BitVec 32 := 1#32
  let arg14 : BitVec 32 := Scf.iv c1_i32_81 c1_i32_82 k0_t1
  let c8_i32_446 : BitVec 32 := 8#32
  let v539 : BitVec 1 := Scalar.cmpi .sle arg14 c8_i32_446
  let v540 : BitVec 32 := Scalar.extui v539
  let c0_i32_447 : BitVec 32 := 0#32
  let v541 : BitVec 1 := Scalar.cmpi .ne v540 c0_i32_447
  v541

def k0_dev12 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_6 : BitVec 32 := 32#32
  let v14 : BitVec 32 := Scalar.addi v2 c32_i32_6
  let c1_i32_7 : BitVec 32 := 1#32
  let v15 : BitVec 32 := Scalar.subi v14 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_451 : BitVec 32 := 1#32
  let v545 : BitVec 32 := Scalar.muli v25 c1_i32_451
  let v546 : BitVec 32 := Scalar.addi c0_i32_452 v545
  v546.toNat
def k0_cond3 (k0_t1 : Fin k0_t1_loop.trips) : BitVec 1 :=
  let c1_i32_81 : BitVec 32 := 1#32
  let c1_i32_82 : BitVec 32 := 1#32
  let arg14 : BitVec 32 := Scf.iv c1_i32_81 c1_i32_82 k0_t1
  let c7_i32_448 : BitVec 32 := 7#32
  let v542 : BitVec 1 := Scalar.cmpi .sle arg14 c7_i32_448
  let v543 : BitVec 32 := Scalar.extui v542
  let c0_i32_449 : BitVec 32 := 0#32
  let v544 : BitVec 1 := Scalar.cmpi .ne v543 c0_i32_449
  v544

def k0_dev13 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_451 : BitVec 32 := 1#32
  let v545 : BitVec 32 := Scalar.muli v13 c1_i32_451
  let v546 : BitVec 32 := Scalar.addi c0_i32_452 v545
  v546.toNat
def k0_dev14 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_88 : BitVec 32 := 1#32
  let v97 : BitVec 32 := Scalar.muli v13 c1_i32_88
  let v98 : BitVec 32 := Scalar.addi c0_i32_89 v97
  v98.toNat
def k0_off9 (d0 : Dev nD) (c15_i32_95 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_94 : BitVec 32 := 32#32
  let v107 : BitVec 32 := Scalar.addi v2 c32_i32_94
  let v108 : BitVec 32 := Scalar.subi v107 c15_i32_95
  let c32_i32_96 : BitVec 32 := 32#32
  let c0_i32_97 : BitVec 32 := 0#32
  let v109 : BitVec 1 := Scalar.cmpi .eq c32_i32_96 c0_i32_97
  let c1_i32_98 : BitVec 32 := 1#32
  let v110 : BitVec 32 := Scalar.select v109 c1_i32_98 c32_i32_96
  let v111 : BitVec 32 := Scalar.remsi v108 v110
  let c0_i32_100 : BitVec 32 := 0#32
  let v113 : BitVec 1 := Scalar.cmpi .slt v111 c0_i32_100
  let c0_i32_101 : BitVec 32 := 0#32
  let v114 : BitVec 1 := Scalar.cmpi .slt v110 c0_i32_101
  let v115 : BitVec 1 := Scalar.xori v113 v114
  let c0_i32_99 : BitVec 32 := 0#32
  let v112 : BitVec 1 := Scalar.cmpi .ne v111 c0_i32_99
  let v116 : BitVec 1 := Scalar.andi v115 v112
  let v117 : BitVec 32 := Scalar.addi v111 v110
  let v118 : BitVec 32 := Scalar.select v116 v117 v111
  let c128_i32_107 : BitVec 32 := 128#32
  let v124 : BitVec 32 := Scalar.muli v118 c128_i32_107
  let v125 : Index := Scalar.indexCast v124
  let c0_108 : Index := 0#32
  ![v125.toNat, 0]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_110 : BitVec 32 := 15#32
  let v133 : BitVec 32 := Scalar.addi v2 c15_i32_110
  let c32_i32_111 : BitVec 32 := 32#32
  let c0_i32_112 : BitVec 32 := 0#32
  let v134 : BitVec 1 := Scalar.cmpi .eq c32_i32_111 c0_i32_112
  let c1_i32_113 : BitVec 32 := 1#32
  let v135 : BitVec 32 := Scalar.select v134 c1_i32_113 c32_i32_111
  let v136 : BitVec 32 := Scalar.remsi v133 v135
  let c0_i32_115 : BitVec 32 := 0#32
  let v138 : BitVec 1 := Scalar.cmpi .slt v136 c0_i32_115
  let c0_i32_116 : BitVec 32 := 0#32
  let v139 : BitVec 1 := Scalar.cmpi .slt v135 c0_i32_116
  let v140 : BitVec 1 := Scalar.xori v138 v139
  let c0_i32_114 : BitVec 32 := 0#32
  let v137 : BitVec 1 := Scalar.cmpi .ne v136 c0_i32_114
  let v141 : BitVec 1 := Scalar.andi v140 v137
  let v142 : BitVec 32 := Scalar.addi v136 v135
  let v143 : BitVec 32 := Scalar.select v141 v142 v136
  let c128_i32_123 : BitVec 32 := 128#32
  let v149 : BitVec 32 := Scalar.muli v143 c128_i32_123
  let v150 : Index := Scalar.indexCast v149
  let c0_124 : Index := 0#32
  ![v150.toNat, 0]
def k0_dev15 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_161 : BitVec 32 := 1#32
  let v198 : BitVec 32 := Scalar.xori v2 c1_i32_161
  let c1_i32_169 : BitVec 32 := 1#32
  let v203 : BitVec 32 := Scalar.muli v198 c1_i32_169
  let v204 : BitVec 32 := Scalar.addi c0_i32_170 v203
  v204.toNat
def k0_dev16 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_196 : BitVec 32 := 2#32
  let v230 : BitVec 32 := Scalar.xori v2 c2_i32_196
  let c1_i32_204 : BitVec 32 := 1#32
  let v235 : BitVec 32 := Scalar.muli v230 c1_i32_204
  let v236 : BitVec 32 := Scalar.addi c0_i32_205 v235
  v236.toNat
def k0_dev17 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_231 : BitVec 32 := 4#32
  let v262 : BitVec 32 := Scalar.xori v2 c4_i32_231
  let c1_i32_238 : BitVec 32 := 1#32
  let v267 : BitVec 32 := Scalar.muli v262 c1_i32_238
  let v268 : BitVec 32 := Scalar.addi c0_i32_239 v267
  v268.toNat
def k0_dev18 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_265 : BitVec 32 := 8#32
  let v294 : BitVec 32 := Scalar.xori v2 c8_i32_265
  let c1_i32_273 : BitVec 32 := 1#32
  let v299 : BitVec 32 := Scalar.muli v294 c1_i32_273
  let v300 : BitVec 32 := Scalar.addi c0_i32_274 v299
  v300.toNat
def k0_dev19 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_300 : BitVec 32 := 16#32
  let v326 : BitVec 32 := Scalar.xori v2 c16_i32_300
  let c1_i32_307 : BitVec 32 := 1#32
  let v331 : BitVec 32 := Scalar.muli v326 c1_i32_307
  let v332 : BitVec 32 := Scalar.addi c0_i32_308 v331
  v332.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Cells.lean ====
/-
# The devices of the ring, the slots of the scratch buffers, and the semaphores

`rightOf c` and `leftOf c` are the neighbours on the ring of 32 devices, `pal r c` the device that exchanges maxima
with `c` in round `r`. The flag `d` stands for a direction of travel: `true` is the ring of `cc0_scratch0`, whose
copies go to the right, `false` that of `cc0_scratch1`, whose copies go to the left.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The devices -/

set_option backward.proofsInPublic true in
def rightOf (c : Dev nD) : Dev nD := ⟨(c.val + 1) % 32, Nat.mod_lt _ (by decide)⟩
set_option backward.proofsInPublic true in
def leftOf (c : Dev nD) : Dev nD := ⟨(c.val + 31) % 32, Nat.mod_lt _ (by decide)⟩
set_option backward.proofsInPublic true in
/-- The partner of `c` in round `r` of the exchange of maxima: bit `r` of the number flipped. -/
def pal (r : ℕ) (c : Dev nD) : Dev nD := ⟨(c.val ^^^ 2 ^ (r % 5)) % 32, Nat.mod_lt _ (by decide)⟩

theorem left_right (c : Dev nD) : leftOf (rightOf c) = c := by revert c; decide
theorem right_left (c : Dev nD) : rightOf (leftOf c) = c := by revert c; decide
theorem pal_pal (r : ℕ) (c : Dev nD) : pal r (pal r c) = c := by
  have h : ∀ k : Fin 5, ∀ c : Dev nD, ((c.val ^^^ 2 ^ k.val) % 32 ^^^ 2 ^ k.val) % 32 = c.val := by decide +kernel
  exact Fin.ext (h ⟨r % 5, Nat.mod_lt _ (by decide)⟩ c)

/-- Where the copies of direction `d` go, -/
def nxt : Bool → Dev nD → Dev nD | true => rightOf | false => leftOf
/-- and where those that arrive come from. -/
def prv : Bool → Dev nD → Dev nD | true => leftOf | false => rightOf

theorem prv_nxt (d : Bool) (c : Dev nD) : prv d (nxt d c) = c := by cases d; exacts [right_left c, left_right c]
theorem nxt_prv (d : Bool) (c : Dev nD) : nxt d (prv d c) = c := by cases d; exacts [left_right c, right_left c]
theorem nxt_not (d : Bool) (c : Dev nD) : nxt (!d) c = prv d c := by cases d <;> rfl
theorem prv_not (d : Bool) (c : Dev nD) : prv (!d) c = nxt d c := by cases d <;> rfl

def around (d : Bool) : Dev nD ≃ Dev nD := ⟨nxt d, prv d, prv_nxt d, nxt_prv d⟩
def across (r : ℕ) : Dev nD ≃ Dev nD := ⟨pal r, pal r, pal_pal r, pal_pal r⟩

set_option backward.proofsInPublic true in
/-- The device whose block of `x` device `c` receives in hop `h` of direction `d`: `h + 1` places back. -/
def origin (d : Bool) (h : ℕ) (c : Dev nD) : Dev nD :=
  ⟨(c.val + (if d then 32 * (h + 1) - (h + 1) else h + 1)) % 32, Nat.mod_lt _ (by decide)⟩

theorem origin_zero (d : Bool) (c : Dev nD) : origin d 0 c = prv d c := by revert d c; decide
theorem origin_succ (d : Bool) (h : ℕ) (c : Dev nD) : origin d (h + 1) (nxt d c) = origin d h c := by
  cases d <;> refine Fin.ext ?_ <;> simp only [origin, nxt, rightOf, leftOf, if_true, Bool.false_eq_true, if_false] <;> omega
theorem origin_zero_nxt (d : Bool) (c : Dev nD) : origin d 0 (nxt d c) = c := by revert d c; decide

/-! ## The device numbers the kernel computes -/

theorem dev1_eq (c : Dev nD) : (⟨k0_dev1 c, k0_dev1_lt c⟩ : Dev nD) = leftOf c := Fin.ext (by revert c; decide +kernel)
theorem dev2_eq (c : Dev nD) : (⟨k0_dev2 c, k0_dev2_lt c⟩ : Dev nD) = rightOf c := Fin.ext (by revert c; decide +kernel)
theorem dev3_eq (c : Dev nD) : (⟨k0_dev3 c, k0_dev3_lt c⟩ : Dev nD) = pal 0 c := Fin.ext (by revert c; decide +kernel)
theorem dev4_eq (c : Dev nD) : (⟨k0_dev4 c, k0_dev4_lt c⟩ : Dev nD) = pal 1 c := Fin.ext (by revert c; decide +kernel)
theorem dev5_eq (c : Dev nD) : (⟨k0_dev5 c, k0_dev5_lt c⟩ : Dev nD) = pal 2 c := Fin.ext (by revert c; decide +kernel)
theorem dev6_eq (c : Dev nD) : (⟨k0_dev6 c, k0_dev6_lt c⟩ : Dev nD) = pal 3 c := Fin.ext (by revert c; decide +kernel)
theorem dev7_eq (c : Dev nD) : (⟨k0_dev7 c, k0_dev7_lt c⟩ : Dev nD) = pal 4 c := Fin.ext (by revert c; decide +kernel)
theorem dev8_eq (c : Dev nD) : (⟨k0_dev8 c, k0_dev8_lt c⟩ : Dev nD) = rightOf c := Fin.ext (by revert c; decide +kernel)
theorem dev9_eq (c : Dev nD) : (⟨k0_dev9 c, k0_dev9_lt c⟩ : Dev nD) = leftOf c := Fin.ext (by revert c; decide +kernel)
theorem dev10_eq (c : Dev nD) : (⟨k0_dev10 c, k0_dev10_lt c⟩ : Dev nD) = rightOf c := Fin.ext (by revert c; decide +kernel)
theorem dev11_eq (c : Dev nD) : (⟨k0_dev11 c, k0_dev11_lt c⟩ : Dev nD) = leftOf c := Fin.ext (by revert c; decide +kernel)
theorem dev12_eq (c : Dev nD) (h) : (⟨k0_dev12 c, h⟩ : Dev nD) = leftOf c := Fin.ext (by revert c; decide +kernel)
theorem dev13_eq (c : Dev nD) (h) : (⟨k0_dev13 c, h⟩ : Dev nD) = rightOf c := Fin.ext (by revert c; decide +kernel)
theorem dev14_eq (c : Dev nD) : (⟨k0_dev14 c, k0_dev14_lt c⟩ : Dev nD) = rightOf c := Fin.ext (by revert c; decide +kernel)
theorem dev15_eq (c : Dev nD) : (⟨k0_dev15 c, k0_dev15_lt c⟩ : Dev nD) = pal 0 c := Fin.ext (by revert c; decide +kernel)
theorem dev16_eq (c : Dev nD) : (⟨k0_dev16 c, k0_dev16_lt c⟩ : Dev nD) = pal 1 c := Fin.ext (by revert c; decide +kernel)
theorem dev17_eq (c : Dev nD) : (⟨k0_dev17 c, k0_dev17_lt c⟩ : Dev nD) = pal 2 c := Fin.ext (by revert c; decide +kernel)
theorem dev18_eq (c : Dev nD) : (⟨k0_dev18 c, k0_dev18_lt c⟩ : Dev nD) = pal 3 c := Fin.ext (by revert c; decide +kernel)
theorem dev19_eq (c : Dev nD) : (⟨k0_dev19 c, k0_dev19_lt c⟩ : Dev nD) = pal 4 c := Fin.ext (by revert c; decide +kernel)

/-! ## The offsets the kernel computes -/

theorem trips_eq : k0_t1_loop.trips = 14 := by decide +kernel

/-- The first row of block `e` of the result. -/
abbrev rowOff (e : Dev nD) : Fin 2 → ℕ := ![128 * e.val, 0]
/-- Where a slot lies in its ring's buffer: hop `h` lands in slot `h % 8`. -/
abbrev slotOff (h : ℕ) : Fin 3 → ℕ := ![h % 8, 0, 0]

theorem off1_eq : ∀ c : Dev nD, k0_off1 c = rowOff c := by decide +kernel
theorem off3_eq : ∀ t : Fin k0_t1_loop.trips, k0_off3 t = slotOff (t.val + 1) := by decide +kernel
theorem off4_eq : ∀ t : Fin k0_t1_loop.trips, k0_off4 t = slotOff t.val := by decide +kernel
theorem off6_eq : ∀ t : Fin k0_t1_loop.trips, k0_off6 t = slotOff t.val := by decide +kernel
theorem off7_eq : ∀ (c : Dev nD) (t : Fin k0_t1_loop.trips), k0_off7 c t = rowOff (origin true t.val c) := by decide +kernel
theorem off8_eq : ∀ (c : Dev nD) (t : Fin k0_t1_loop.trips), k0_off8 c t = rowOff (origin false t.val c) := by decide +kernel
theorem off9_15_eq : ∀ c : Dev nD, k0_off9 c 15#32 = rowOff (origin true 14 c) := by decide +kernel
theorem off9_16_eq : ∀ c : Dev nD, k0_off9 c 16#32 = rowOff (origin true 15 c) := by decide +kernel
theorem off10_eq : ∀ c : Dev nD, k0_off10 c = rowOff (origin false 14 c) := by decide +kernel

theorem row_inb (e : Dev nD) : ∀ a, rowOff e a + S128x256.size a ≤ S4096x256.size a := by revert e; decide +kernel
theorem slot_inb (h : ℕ) : ∀ a, slotOff h a + S1x128x4096.size a ≤ S8x128x4096.size a := by
  show ∀ a, (![h % 8, 0, 0] : Fin 3 → ℕ) a + S1x128x4096.size a ≤ S8x128x4096.size a
  have : h % 8 < 8 := Nat.mod_lt _ (by decide)
  generalize h % 8 = k at this
  revert k; decide +kernel

/-! ## The conditions of the loop -/

theorem cond1_iff : ∀ t : Fin k0_t1_loop.trips,
    Scalar.cmpi .ne (Scalar.extui (Scalar.cmpi .sge (Scf.iv 1#32 1#32 t) 8#32) : BitVec 32) 0#32 = 1#1 ↔ 7 ≤ t.val := by decide +kernel
theorem cond2_iff : ∀ t : Fin k0_t1_loop.trips, k0_cond2 t = 1#1 ↔ t.val < 8 := by decide +kernel
theorem cond3_iff : ∀ t : Fin k0_t1_loop.trips, k0_cond3 t = 1#1 ↔ t.val < 7 := by decide +kernel

/-! ## The memrefs -/

abbrev xM : Memref sig .tc .vmem S128x4096 .f32 := Memref.whole cc0_stg0_0
abbrev wM : Memref sig .tc .vmem S4096x256 .f32 := Memref.whole cc0_stg1_0
abbrev oM : Memref sig .tc .vmem S4096x256 .f32 := Memref.whole cc0_stg2_0
abbrev aM : Memref sig .tc .vmem S6x8x128 .f32 := Memref.whole cc0_scratch8
/-- The scratch buffer of a ring. -/
abbrev ringM : Bool → Memref sig .tc .vmem S8x128x4096 .f32
  | true => Memref.whole cc0_scratch0
  | false => Memref.whole cc0_scratch1

/-- The slot hop `h` of direction `d` lands in. -/
abbrev slot (d : Bool) (h : ℕ) : Memref sig .tc .vmem S128x4096 .f32 :=
  ((ringM d).slice (Rect.unit (s := S8x128x4096) (slotOff h) S1x128x4096.size (slot_inb h)) (fun _ => rfl)).squeeze S128x4096
    squeezes_S1x128x4096_S128x4096

theorem aslot_inb (r : ℕ) : ∀ a, (![r % 6, 0, 0] : Fin 3 → ℕ) a + S1x8x128.size a ≤ S6x8x128.size a := by
  have : r % 6 < 6 := Nat.mod_lt _ (by decide)
  generalize r % 6 = k at this
  revert k; decide +kernel

/-- Slot `r` of the buffer of maxima: 0 is the one sent, `r + 1` the one round `r` lands in. -/
abbrev aslot (r : ℕ) : Memref sig .tc .vmem S8x128 .f32 :=
  (aM.slice (Rect.unit (s := S6x8x128) ![r % 6, 0, 0] S1x8x128.size (aslot_inb r)) (fun _ => rfl)).squeeze S8x128
    squeezes_S1x8x128_S8x128

/-! ## The semaphores -/

/-- What a semaphore is for: the barrier; the credit of a ring; the sending and the arriving end of a hop of a ring; the
    sending and the arriving end of a round of the exchange of maxima. -/
inductive Use where
  | none | bar | credit (d : Bool) | snd (d : Bool) (h : ℕ) | rcv (d : Bool) (h : ℕ) | asnd (r : ℕ) | arcv (r : ℕ)
  deriving DecidableEq

/-- The use of a transfer semaphore, by its number. -/
def useDma (n : ℕ) : Use :=
  if n < 3 then .none else if n < 19 then .snd true (n - 3) else if n < 35 then .rcv true (n - 19)
  else if n < 50 then .snd false (n - 35) else if n < 65 then .rcv false (n - 50)
  else if n < 70 then .asnd (n - 65) else .arcv (n - 70)

def use : SemLoc sig → Use
  | .reg s => if s.val = 0 then .credit true else if s.val = 1 then .credit false else .bar
  | .dma s => useDma s.val

abbrev barS : Sem sig := (SemArray.scalar (sig.barrier 0 rfl) : Sems sig S_).sem
abbrev creditS : Bool → Sem sig | true => (cc0_scratch6 : Sems sig S_).sem | false => (cc0_scratch7 : Sems sig S_).sem

theorem use_bar : use (.reg barS) = .bar := by decide
theorem use_credit (d : Bool) : use (.reg (creditS d)) = .credit d := by cases d <;> decide

/-- How many hops a ring makes. -/
abbrev hops (d : Bool) : ℕ := if d then 16 else 15

theorem nDma : sig.nDmaSem = 75 := by decide

set_option backward.proofsInPublic true in
def sndS (d : Bool) (h : ℕ) : DmaSem sig := ⟨if d then 3 + h % 16 else 35 + h % 15, by rw [nDma]; split <;> omega⟩
set_option backward.proofsInPublic true in
def rcvS (d : Bool) (h : ℕ) : DmaSem sig := ⟨if d then 19 + h % 16 else 50 + h % 15, by rw [nDma]; split <;> omega⟩
set_option backward.proofsInPublic true in
def asndS (r : ℕ) : DmaSem sig := ⟨65 + r % 5, by rw [nDma]; omega⟩
set_option backward.proofsInPublic true in
def arcvS (r : ℕ) : DmaSem sig := ⟨70 + r % 5, by rw [nDma]; omega⟩

theorem use_snd {d : Bool} {h : ℕ} (hh : h < hops d) : use (.dma (sndS d h)) = .snd d h := by
  cases d <;> simp only [hops, Bool.false_eq_true, if_false, if_true] at hh
  · revert h; decide
  · revert h; decide
theorem use_rcv {d : Bool} {h : ℕ} (hh : h < hops d) : use (.dma (rcvS d h)) = .rcv d h := by
  cases d <;> simp only [hops, Bool.false_eq_true, if_false, if_true] at hh
  · revert h; decide
  · revert h; decide
theorem use_asnd {r : ℕ} (hr : r < 5) : use (.dma (asndS r)) = .asnd r := by revert r; decide
theorem use_arcv {r : ℕ} (hr : r < 5) : use (.dma (arcvS r)) = .arcv r := by revert r; decide

/-- The semaphores the loop names at trip `t` are those of hop `t + 1`. -/
theorem sem2_snd : ∀ t : Fin k0_t1_loop.trips, (((cc0_scratch2 : DmaSems sig S16).slice (Rect.unit (s := S16) (k0_off2 t) S1.size (k0_off2_inb t))).squeeze S_ squeezes_S1_S_).sem
    = sndS true (t.val + 1) := by decide +kernel
theorem sem2_rcv : ∀ t : Fin k0_t1_loop.trips, (((cc0_scratch3 : DmaSems sig S16).slice (Rect.unit (s := S16) (k0_off2 t) S1.size (k0_off2_inb t))).squeeze S_ squeezes_S1_S_).sem
    = rcvS true (t.val + 1) := by decide +kernel
theorem sem5_snd : ∀ t : Fin k0_t1_loop.trips, (((cc0_scratch4 : DmaSems sig S15).slice (Rect.unit (s := S15) (k0_off5 t) S1.size (k0_off5_inb t))).squeeze S_ squeezes_S1_S_).sem
    = sndS false (t.val + 1) := by decide +kernel
theorem sem5_rcv : ∀ t : Fin k0_t1_loop.trips, (((cc0_scratch5 : DmaSems sig S15).slice (Rect.unit (s := S15) (k0_off5 t) S1.size (k0_off5_inb t))).squeeze S_ squeezes_S1_S_).sem
    = rcvS false (t.val + 1) := by decide +kernel
theorem sem0_snd_right : (((cc0_scratch2 : DmaSems sig S16).slice (Rect.unit (s := S16) ![0] S1.size inb_S16_S1_0)).squeeze S_ squeezes_S1_S_).sem = sndS true 0 := by decide
theorem sem0_rcv_right : (((cc0_scratch3 : DmaSems sig S16).slice (Rect.unit (s := S16) ![0] S1.size inb_S16_S1_0)).squeeze S_ squeezes_S1_S_).sem = rcvS true 0 := by decide
theorem sem0_snd_left : (((cc0_scratch4 : DmaSems sig S15).slice (Rect.unit (s := S15) ![0] S1.size inb_S15_S1_0)).squeeze S_ squeezes_S1_S_).sem = sndS false 0 := by decide
theorem sem0_rcv_left : (((cc0_scratch5 : DmaSems sig S15).slice (Rect.unit (s := S15) ![0] S1.size inb_S15_S1_0)).squeeze S_ squeezes_S1_S_).sem = rcvS false 0 := by decide
theorem sem15_snd : (((cc0_scratch2 : DmaSems sig S16).slice (Rect.unit (s := S16) ![15] S1.size inb_S16_S1_15)).squeeze S_ squeezes_S1_S_).sem = sndS true 15 := by decide
theorem sem15_rcv : (((cc0_scratch3 : DmaSems sig S16).slice (Rect.unit (s := S16) ![15] S1.size inb_S16_S1_15)).squeeze S_ squeezes_S1_S_).sem = rcvS true 15 := by decide

theorem sem_asnd0 : (((cc0_scratch9 : DmaSems sig S5).slice (Rect.unit (s := S5) ![0] S1.size inb_S5_S1_0)).squeeze S_ squeezes_S1_S_).sem = asndS 0 := by decide
theorem sem_arcv0 : (((cc0_scratch10 : DmaSems sig S5).slice (Rect.unit (s := S5) ![0] S1.size inb_S5_S1_0)).squeeze S_ squeezes_S1_S_).sem = arcvS 0 := by decide
theorem sem_asnd1 : (((cc0_scratch9 : DmaSems sig S5).slice (Rect.unit (s := S5) ![1] S1.size inb_S5_S1_1)).squeeze S_ squeezes_S1_S_).sem = asndS 1 := by decide
theorem sem_arcv1 : (((cc0_scratch10 : DmaSems sig S5).slice (Rect.unit (s := S5) ![1] S1.size inb_S5_S1_1)).squeeze S_ squeezes_S1_S_).sem = arcvS 1 := by decide
theorem sem_asnd2 : (((cc0_scratch9 : DmaSems sig S5).slice (Rect.unit (s := S5) ![2] S1.size inb_S5_S1_2)).squeeze S_ squeezes_S1_S_).sem = asndS 2 := by decide
theorem sem_arcv2 : (((cc0_scratch10 : DmaSems sig S5).slice (Rect.unit (s := S5) ![2] S1.size inb_S5_S1_2)).squeeze S_ squeezes_S1_S_).sem = arcvS 2 := by decide
theorem sem_asnd3 : (((cc0_scratch9 : DmaSems sig S5).slice (Rect.unit (s := S5) ![3] S1.size inb_S5_S1_3)).squeeze S_ squeezes_S1_S_).sem = asndS 3 := by decide
theorem sem_arcv3 : (((cc0_scratch10 : DmaSems sig S5).slice (Rect.unit (s := S5) ![3] S1.size inb_S5_S1_3)).squeeze S_ squeezes_S1_S_).sem = arcvS 3 := by decide
theorem sem_asnd4 : (((cc0_scratch9 : DmaSems sig S5).slice (Rect.unit (s := S5) ![4] S1.size inb_S5_S1_4)).squeeze S_ squeezes_S1_S_).sem = asndS 4 := by decide
theorem sem_arcv4 : (((cc0_scratch10 : DmaSems sig S5).slice (Rect.unit (s := S5) ![4] S1.size inb_S5_S1_4)).squeeze S_ squeezes_S1_S_).sem = arcvS 4 := by decide

/-- A semaphore of a device, as a cell of the machine. -/
abbrev cell (c : Dev nD) (s : SemLoc sig) : GSem nD τ sig := ((c : Thread nD τ), s)
abbrev barC (c : Dev nD) : GSem nD τ sig := cell c (.reg barS)
abbrev credC (d : Bool) (c : Dev nD) : GSem nD τ sig := cell c (.reg (creditS d))
abbrev sndC (d : Bool) (h : ℕ) (c : Dev nD) : GSem nD τ sig := cell c (.dma (sndS d h))
abbrev rcvC (d : Bool) (h : ℕ) (c : Dev nD) : GSem nD τ sig := cell c (.dma (rcvS d h))
abbrev asndC (r : ℕ) (c : Dev nD) : GSem nD τ sig := cell c (.dma (asndS r))
abbrev arcvC (r : ℕ) (c : Dev nD) : GSem nD τ sig := cell c (.dma (arcvS r))

/-! ## What a transfer credits -/

/-- The units a block of `x` credits, -/
@[irreducible] def NX : ℕ := (slot true 0).view.dmaCredit
/-- and a slot of maxima. -/
@[irreducible] def NA : ℕ := (aslot 0).view.dmaCredit
theorem NX_pos : 0 < NX := by unfold NX; exact View.dmaCredit_pos _ (by decide)
theorem NA_pos : 0 < NA := by unfold NA; exact View.dmaCredit_pos _ (by decide)
theorem credit_slot (d : Bool) (h : ℕ) : (slot d h).view.dmaCredit = NX := by unfold NX; cases d <;> rfl
theorem credit_x : xM.view.dmaCredit = NX := by unfold NX; rfl
theorem credit_aslot (r : ℕ) : (aslot r).view.dmaCredit = NA := by unfold NA; rfl

end Cert.RingProof

end
-- ==== Proof.Vals.lean ====
/-
# What the kernel computes, as functions of the devices' inputs

`gemm X W` is the product of one block of `x` with a device's columns of the weights, `blockMax Y` the largest
magnitude in such a product, `acc h` the running maximum before hop `h` is accounted for, `top r` the maximum before
round `r` of the exchange, and `quant m Y` the rounding of all of `Y` to the grid whose largest magnitude is `m`.
-/
module

public import proofs.«01_k».proof.Proof.Cells
public import Idealize.ShloMosaic.Lib.Pointwise.Reshape

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A block of `x` times a device's columns of the weights. -/
def gemm (X : Vec F S128x4096 .f32) (W : Vec F S4096x256 .f32) : FVec F S128x256 .f32 :=
  matmul dot_S128x4096_S4096x256_S128x256_1_0_0_1_n_n (some .fp32) X W (constant S128x256 .f32 0x00000000#32)

/-- The largest magnitude in a product. -/
def blockMax (Y : FVec F S128x256 .f32) : F .f32 :=
  extractAt ![0, 0, 0] (shapeCast S1x1x1 (multiReduction .maximumf [1, 2] S1 (shapeCast S1x128x256 (absf Y) shapeCasts_S128x256_S1x128x256)
    0xFF800000#32 reduces_S1x128x256_S1 (.inl rfl) rfl) shapeCasts_S1_S1x1x1) inpos_S1x1x1_p0_0_0

/-- All of a device's products rounded to the grid with largest magnitude `m`. -/
def quant (m : F .f32) (Y : Vec F S4096x256 .f32) : FVec F S4096x256 .f32 :=
  mulf (minimumf (broadcast S4096x256 (Scalar.ofBits .f32 0x42FE0000#32)) (maximumf (broadcast S4096x256 (Scalar.ofBits .f32 0xC2FE0000#32))
    (roundeven (divf Y (broadcast S4096x256 (Scalar.divf m (Scalar.ofBits .f32 0x42FE0000#32)))))))
    (broadcast S4096x256 (Scalar.divf m (Scalar.ofBits .f32 0x42FE0000#32)))

section Vals

variable (X : Dev nD → Vec F S128x4096 .f32) (W : Dev nD → Vec F S4096x256 .f32)

/-- The running maximum on device `c` once its own block and `h` blocks of each ring are accounted for. -/
def acc (c : Dev nD) : ℕ → F .f32
  | 0 => blockMax (gemm (X c) (W c))
  | h + 1 => Scalar.maximumf (Scalar.maximumf (acc c h) (blockMax (gemm (X (origin true h c)) (W c))))
      (blockMax (gemm (X (origin false h c)) (W c)))

/-- The maximum device `c` holds before round `r` of the exchange. -/
def top : ℕ → Dev nD → F .f32
  | 0, c => Scalar.maximumf (acc X W c 15) (blockMax (gemm (X (origin true 15 c)) (W c)))
  | r + 1, c => Scalar.maximumf (top r c) (top r (pal r c))

set_option backward.proofsInPublic true in
/-- The device whose block row `i` belongs to, -/
def rowDev (i : S4096x256.Idx) : Dev nD := ⟨(i 0).val / 128, by have := (i 0).isLt; simp only [S4096x256] at this; exact Nat.div_lt_of_lt_mul this⟩
set_option backward.proofsInPublic true in
/-- and the place within the block. -/
def rowIn (i : S4096x256.Idx) : S128x256.Idx := fun | ⟨0, _⟩ => ⟨(i 0).val % 128, Nat.mod_lt _ (by decide)⟩ | ⟨1, _⟩ => i 1

/-- All of device `c`'s products. -/
def prods (c : Dev nD) : Vec F S4096x256 .f32 := fun i => gemm (X (rowDev i)) (W c) (rowIn i)

/-- The result of device `c`. -/
def result (c : Dev nD) : Vec F S4096x256 .f32 := quant (top X W 5 c) (prods X W c)

/-- The rows of block `e`. -/
abbrev rowR (e : Dev nD) : Rect S4096x256 := Rect.unit (s := S4096x256) (rowOff e) S128x256.size (row_inb e)

/-- Block `e` of `f` is the product of block `e` of `x` with the columns of `c`. -/
def RowsAre (c e : Dev nD) (f : Vec F S4096x256 .f32) : Prop :=
  ∀ i : S128x256.Idx, f ((rowR e).emb i) = gemm (X e) (W c) i

end Vals

/-! ## The kernel's own expressions -/

theorem pay1_eq (v : Vec F S1x128x4096 .f32) (w : Vec F S4096x256 .f32) (x : Vec F S128x4096 .f32) (hv : shapeCast S128x4096 v shapeCasts_S1x128x4096_S128x4096 = x) :
    k0_pay1 v w = gemm x w := by subst hv; unfold k0_pay1 gemm; rw [shapeCast_id]
theorem pay2_eq (a : F .f32) (v : Vec F S1x128x4096 .f32) (w : Vec F S4096x256 .f32) (x : Vec F S128x4096 .f32) (hv : shapeCast S128x4096 v shapeCasts_S1x128x4096_S128x4096 = x) :
    k0_pay2 a v w = Scalar.maximumf a (blockMax (gemm x w)) := by rw [← pay1_eq v w x hv]; rfl
theorem pay3_eq (v : Vec F S1x128x4096 .f32) (w : Vec F S4096x256 .f32) (x : Vec F S128x4096 .f32) (hv : shapeCast S128x4096 v shapeCasts_S1x128x4096_S128x4096 = x) :
    k0_pay3 v w = gemm x w := by subst hv; unfold k0_pay3 gemm; rw [shapeCast_id]
theorem pay4_eq (a : F .f32) (v : Vec F S1x128x4096 .f32) (w : Vec F S4096x256 .f32) (x : Vec F S128x4096 .f32) (hv : shapeCast S128x4096 v shapeCasts_S1x128x4096_S128x4096 = x) :
    k0_pay4 a v w = Scalar.maximumf a (blockMax (gemm x w)) := by rw [← pay3_eq v w x hv]; rfl
theorem pay5_eq (x : Vec F S128x4096 .f32) (w : Vec F S4096x256 .f32) : k0_pay5 x w = gemm x w := by
  unfold k0_pay5 gemm; rw [shapeCast_id, shapeCast_id]
theorem pay6_eq (x : Vec F S128x4096 .f32) (w : Vec F S4096x256 .f32) : k0_pay6 x w = blockMax (gemm x w) := by
  rw [← pay5_eq x w]; rfl
theorem pay7_eq (v : Vec F S1x128x4096 .f32) (w : Vec F S4096x256 .f32) (x : Vec F S128x4096 .f32) (hv : shapeCast S128x4096 v shapeCasts_S1x128x4096_S128x4096 = x) :
    k0_pay7 v w = gemm x w := pay1_eq v w x hv
theorem pay8_eq (a : F .f32) (v : Vec F S1x128x4096 .f32) (w : Vec F S4096x256 .f32) (x : Vec F S128x4096 .f32) (hv : shapeCast S128x4096 v shapeCasts_S1x128x4096_S128x4096 = x) :
    k0_pay8 a v w = Scalar.maximumf a (blockMax (gemm x w)) := pay2_eq a v w x hv
theorem pay9_eq (v : Vec F S1x128x4096 .f32) (w : Vec F S4096x256 .f32) (x : Vec F S128x4096 .f32) (hv : shapeCast S128x4096 v shapeCasts_S1x128x4096_S128x4096 = x) :
    k0_pay9 v w = gemm x w := pay1_eq v w x hv
theorem pay10_eq (a : F .f32) (v : Vec F S1x128x4096 .f32) (w : Vec F S4096x256 .f32) (x : Vec F S128x4096 .f32) (hv : shapeCast S128x4096 v shapeCasts_S1x128x4096_S128x4096 = x) :
    k0_pay10 a v w = Scalar.maximumf a (blockMax (gemm x w)) := pay2_eq a v w x hv
theorem pay11_eq (v : Vec F S1x128x4096 .f32) (w : Vec F S4096x256 .f32) (x : Vec F S128x4096 .f32) (hv : shapeCast S128x4096 v shapeCasts_S1x128x4096_S128x4096 = x) :
    k0_pay11 v w = gemm x w := pay1_eq v w x hv
theorem pay12_eq (a : F .f32) (v : Vec F S1x128x4096 .f32) (w : Vec F S4096x256 .f32) (x : Vec F S128x4096 .f32) (hv : shapeCast S128x4096 v shapeCasts_S1x128x4096_S128x4096 = x) :
    k0_pay12 a v w = Scalar.maximumf a (blockMax (gemm x w)) := pay2_eq a v w x hv
theorem pay13_eq (a : F .f32) (v : Vec F S1x128x4096 .f32) (w : Vec F S4096x256 .f32) : k0_pay13 a v w = fun _ => k0_pay12 a v w := rfl
theorem pay14_eq (a b : F .f32) : k0_pay14 a (fun _ => b) = Scalar.maximumf a b := rfl
theorem pay15_eq (a : F .f32) (v : Vec F S1x1x1 .f32) : k0_pay15 a v = fun _ => k0_pay14 a v := rfl
theorem pay16_eq (a b : F .f32) : k0_pay16 a (fun _ => b) = Scalar.maximumf a b := rfl
theorem pay17_eq (a : F .f32) (v : Vec F S1x1x1 .f32) : k0_pay17 a v = fun _ => k0_pay16 a v := rfl
theorem pay18_eq (a b : F .f32) : k0_pay18 a (fun _ => b) = Scalar.maximumf a b := rfl
theorem pay19_eq (a : F .f32) (v : Vec F S1x1x1 .f32) : k0_pay19 a v = fun _ => k0_pay18 a v := rfl
theorem pay20_eq (a b : F .f32) : k0_pay20 a (fun _ => b) = Scalar.maximumf a b := rfl
theorem pay21_eq (a : F .f32) (v : Vec F S1x1x1 .f32) : k0_pay21 a v = fun _ => k0_pay20 a v := rfl
theorem pay22_eq (a b : F .f32) (Y : Vec F S4096x256 .f32) : k0_pay22 a (fun _ => b) Y = quant (Scalar.maximumf a b) Y := by
  unfold k0_pay22 quant; rw [shapeCast_id]; rfl

/-! ## Rows -/

section Rows

variable (X : Dev nD → Vec F S128x4096 .f32) (W : Dev nD → Vec F S4096x256 .f32)

/-- Storing the product of block `e` makes its rows that product, -/
theorem rowsAre_store (c e : Dev nD) (f : Vec F S4096x256 .f32) :
    RowsAre X W c e ((oM.access (rowR e)).write (Elt F) f (gemm (X e) (W c)) Finset.univ) := by
  intro i
  have h := View.read_slice_write_emb (v := oM.view) (Val := Elt F) (rowR e) f (gemm (X e) (W c)) (Finset.mem_univ i)
  rw [View.read_whole] at h
  exact h

/-- and leaves the rows of the other blocks. -/
theorem rowsAre_other (c e e' : Dev nD) (hne : e ≠ e') (f : Vec F S4096x256 .f32) (w : FVec F S128x256 .f32) (hf : RowsAre X W c e f) :
    RowsAre X W c e ((oM.access (rowR e')).write (Elt F) f w Finset.univ) := by
  intro i
  rw [← hf i]
  have h : (rowR e).emb i ∉ Finset.univ.map (rowR e').emb := ?_
  · have h := View.read_slice_write_of_not_mem (v := oM.view) (Val := Elt F) (rowR e') f w Finset.univ h
    rw [View.read_whole, View.read_whole] at h
    exact h
  intro h
  obtain ⟨j, -, hj⟩ := Finset.mem_map.mp h
  have h0 := congrArg (fun k : S4096x256.Idx => (k 0).val) hj
  simp only [Rect.emb_apply] at h0
  change 128 * e'.val + 1 * (j 0).val = 128 * e.val + 1 * (i 0).val at h0
  have hj' : (j 0).val < 128 := (j 0).isLt
  have hi' : (i 0).val < 128 := (i 0).isLt
  exact hne (Fin.ext (by omega))

/-- Contents all of whose blocks are the products are all of the products. -/
theorem prods_of_rows (c : Dev nD) (f : Vec F S4096x256 .f32) (hf : ∀ e, RowsAre X W c e f) : f = prods X W c := by
  funext i
  unfold prods
  rw [← hf (rowDev i) (rowIn i)]
  refine congrArg f (funext fun a => Fin.ext ?_)
  rw [Rect.emb_apply]
  match a with
  | ⟨0, _⟩ => show (i 0).val = 128 * ((i 0).val / 128) + 1 * ((i 0).val % 128); omega
  | ⟨1, _⟩ => show (i 1).val = 0 + 1 * (i 1).val; omega

end Rows

/-- Every block is the device's own, or arrives in one of the hops. -/
theorem covered (c e : Dev nD) : e = c ∨ (∃ h < 16, e = origin true h c) ∨ ∃ h < 15, e = origin false h c := by
  revert c e; decide +kernel

end Cert.RingProof

end
-- ==== Proof.Sched.lean ====
/-
# Who waits for whom: the schedule of every semaphore

Each device owns a barrier semaphore, a credit semaphore per ring, a sending and an arriving semaphore per hop of each
ring, and a sending and an arriving semaphore per round of the exchange of maxima. All are used for one round.

* The barrier takes seven units. The right neighbour's hands over its eight slots of the right-going ring, the left
  neighbour's its eight slots of the left-going ring, and each partner's the slot of maxima its round lands in.
* The arriving semaphore of hop `h` takes one block. It hands over slot `h % 8` holding the block that started `h + 1`
  places back, and besides it slots of the other ring on the device the block came from: they are free there, and the
  owner of the semaphore is the one who copies into them.
* The sending semaphore of hop `h` hands back what was sent.
* The credit semaphores take one unit per credit and hand over nothing.
* The arriving semaphore of round `r` of the exchange hands over slot `r + 1` filled with the partner's maximum.
-/
module

public import proofs.«01_k».proof.Proof.Vals

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own, and the rounds of the semaphores above with numbered duties. -/
abbrev UB : Type := URounds (GSem nD τ sig) ℕ
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Memrefs holding given contents -/

/-- A buffer whose elements under `M` read `x`. -/
def filled {s : Shape} {e : EltTy} (M : Memref sig .tc .vmem s e) (x : s.Idx → Elt F e) : M.view.ty.Contents (Elt F) :=
  M.view.write (Elt F) (fun _ => default) x Finset.univ

/-- Share `q` of the elements under `M` on device `c`, which read `x`. -/
def holds {s : Shape} {e : EltTy} (c : Dev nD) (M : Memref sig .tc .vmem s e) (q : PosShare TreeShare) (x : s.Idx → Elt F e) : sProp 𝕄 :=
  M.view.loc (c : Thread nD τ) ↦[M.view.set]{q} filled M x

instance holds_storable {s : Shape} {e : EltTy} (c : Dev nD) (M : Memref sig .tc .vmem s e) (q : PosShare TreeShare) (x : s.Idx → Elt F e) :
    BI.Storable (upEmb : UEmb _ 𝕄) (holds c M q x) := by unfold holds; infer_instance

theorem read_filled {s : Shape} {e : EltTy} (M : Memref sig .tc .vmem s e) (x : s.Idx → Elt F e) : M.view.read (Elt F) (filled M x) = x :=
  View.read_write_univ _ _

/-- Written elements hold what was written, -/
theorem holds_write {s : Shape} {e : EltTy} (c : Dev nD) (M : Memref sig .tc .vmem s e) (q : PosShare TreeShare)
    (f : M.view.ty.Contents (Elt F)) (x : s.Idx → Elt F e) :
    (M.view.loc (c : Thread nD τ) ↦[M.view.set]{q} M.view.write (Elt F) f x Finset.univ : sProp 𝕄) = holds c M q x := by
  unfold holds filled
  refine pointsTo_congr fun i hi => ?_
  obtain ⟨y, -, rfl⟩ := Finset.mem_map.mp hi
  rw [View.write_emb_of_mem _ _ (Finset.mem_univ y), View.write_emb_of_mem _ _ (Finset.mem_univ y)]

/-- and any elements hold what they read. -/
theorem holds_read {s : Shape} {e : EltTy} (c : Dev nD) (M : Memref sig .tc .vmem s e) (q : PosShare TreeShare)
    (f : M.view.ty.Contents (Elt F)) :
    (M.view.loc (c : Thread nD τ) ↦[M.view.set]{q} f : sProp 𝕄) = holds c M q (M.view.read (Elt F) f) := by
  unfold holds filled
  refine pointsTo_congr fun i hi => ?_
  obtain ⟨y, -, rfl⟩ := Finset.mem_map.mp hi
  rw [View.write_emb_of_mem _ _ (Finset.mem_univ y), View.read_apply, cast_cast, cast_eq]

theorem holds_halves {s : Shape} {e : EltTy} (c : Dev nD) (M : Memref sig .tc .vmem s e) (q : PosShare TreeShare) (x : s.Idx → Elt F e) :
    (holds c M q x : sProp 𝕄) ⊣⊢ iprop(holds c M q.left x ∗ holds c M q.right x) :=
  pointsTo_share (PosShare.mem_left_op_right q)

/-- The elements under `M` on device `c`, whatever they hold. -/
def free {s : Shape} {e : EltTy} (c : Dev nD) (M : Memref sig .tc .vmem s e) : sProp 𝕄 := iprop(∃ x : s.Idx → Elt F e, holds c M fullShare x)

instance free_storable {s : Shape} {e : EltTy} (c : Dev nD) (M : Memref sig .tc .vmem s e) : BI.Storable (upEmb : UEmb _ 𝕄) (free (F := F) c M) := by
  unfold free; infer_instance

theorem free_intro {s : Shape} {e : EltTy} (c : Dev nD) (M : Memref sig .tc .vmem s e) (x : s.Idx → Elt F e) :
    (holds c M fullShare x : sProp 𝕄) ⊢ free c M := by unfold free; iintro H; iexists x; iexact H

/-- The slots of the hops from `a` to before `b`, whatever they hold. -/
def frees (d : Bool) (a b : ℕ) (c : Dev nD) : sProp 𝕄 := bigSep (Finset.Ico a b) (fun h => free (F := F) c (slot d h))

instance frees_storable (d : Bool) (a b : ℕ) (c : Dev nD) : BI.Storable (upEmb : UEmb _ 𝕄) (frees (F := F) d a b c) := by
  unfold frees; infer_instance

/-- How far the slots handed over reach once hop `h` is about to start: the slots of the hops before `reach d h` are with
    the device that copies into them. -/
def reach (d : Bool) (h : ℕ) : ℕ := max 8 (min (h + 6) (hops d))

/-! ## The schedule -/

section Sched

variable (X : Dev nD → Vec F S128x4096 .f32) (W : Dev nD → Vec F S4096x256 .f32)

/-- The share of its block of `x` a device sends in the first hop of each direction. -/
abbrev sendShare : Bool → PosShare TreeShare | true => fullShare.left.left | false => fullShare.left.right

/-- What a hop sends: the device's own block at hop 0, later the block that arrived in the hop before. -/
def sent (d : Bool) (c : Dev nD) : ℕ → sProp 𝕄
  | 0 => holds c xM (sendShare d) (X c)
  | h + 1 => holds c (slot d h) fullShare.left (X (origin d h c))

/-- What an arrival of hop `h` hands its device. -/
def arrives (d : Bool) (h : ℕ) (c : Dev nD) : sProp 𝕄 :=
  iprop(holds c (slot d h) fullShare (X (origin d h c)) ∗ frees (F := F) (!d) (reach (!d) h) (reach (!d) (h + 1)) (prv d c))

/-- What the barrier unit number `k` hands its device. -/
def entered (c : Dev nD) : ℕ → sProp 𝕄
  | 0 => frees (F := F) true 0 8 (rightOf c)
  | 1 => frees (F := F) false 0 8 (leftOf c)
  | r + 2 => free (F := F) (pal r c) (aslot (r + 1))

def payOf (c : Dev nD) (k : ℕ) : Use → sProp 𝕄
  | .none => iprop(emp)
  | .bar => entered (F := F) c k
  | .credit _ => iprop(emp)
  | .snd d h => sent X d c h
  | .rcv d h => arrives X d h c
  | .asnd r => holds c (aslot 0) fullShare (fun _ => top X W r c)
  | .arcv r => holds c (aslot (r + 1)) fullShare (fun _ => top X W r (pal r c))

def dutiesOf : Use → Finset ℕ
  | .none => ∅
  | .bar => Finset.range 7
  | .credit d => Finset.range (if d then 8 else 7)
  | _ => {0}

def amountOf : Use → ℕ
  | .snd _ _ | .rcv _ _ => NX
  | .asnd _ | .arcv _ => NA
  | _ => 1

def sched : Rounds.Schedule (GSem nD τ sig) ℕ 𝕄 where
  duties g r := if r = 0 ∧ g.1.2 = .tc then dutiesOf (use g.2) else ∅
  unitless _ := False
  amount g _ _ := amountOf (use g.2)
  payload g _ k := payOf X W g.1.1 k (use g.2)
  amount_pos g _ _ _ := by
    show 0 < amountOf (use g.2)
    cases use g.2 with
    | none => exact Nat.one_pos
    | bar => exact Nat.one_pos
    | credit _ => exact Nat.one_pos
    | snd _ _ => exact NX_pos
    | rcv _ _ => exact NX_pos
    | asnd _ => exact NA_pos
    | arcv _ => exact NA_pos

instance sent_storable (d : Bool) (c : Dev nD) (h : ℕ) : BI.Storable (upEmb : UEmb _ 𝕄) (sent X d c h) := by
  cases h <;> unfold sent <;> infer_instance
instance entered_storable (c : Dev nD) (k : ℕ) : BI.Storable (upEmb : UEmb _ 𝕄) (entered (F := F) c k) := by
  unfold entered; split <;> infer_instance
instance payOf_storable (c : Dev nD) (k : ℕ) (u : Use) : BI.Storable (upEmb : UEmb _ 𝕄) (payOf X W c k u) := by
  cases u <;> unfold payOf <;> first | infer_instance | (unfold arrives; infer_instance)
instance sched_storable (g : GSem nD τ sig) (r : ℕ) (k : ℕ) : BI.Storable (upEmb : UEmb _ 𝕄) ((sched X W).payload g r k) :=
  payOf_storable X W g.1.1 k (use g.2)

theorem duties_later (g : GSem nD τ sig) : ∀ r, 1 ≤ r → (sched X W).duties g r = ∅ :=
  fun r hr => if_neg fun h => by omega

theorem duties_eq (c : Dev nD) (s : SemLoc sig) {u : Use} (hu : use s = u) : (sched X W).duties (cell c s) 0 = dutiesOf u := by
  subst hu; show (if 0 = 0 ∧ (cell c s).1.2 = .tc then dutiesOf (use s) else ∅) = _; exact if_pos ⟨rfl, rfl⟩
theorem amount_eq (c : Dev nD) (s : SemLoc sig) (k : ℕ) {u : Use} (hu : use s = u) : (sched X W).amount (cell c s) 0 k = amountOf u := by
  subst hu; rfl
theorem payload_eq (c : Dev nD) (s : SemLoc sig) (k : ℕ) {u : Use} (hu : use s = u) : (sched X W).payload (cell c s) 0 k = payOf X W c k u := by
  subst hu; rfl
theorem expect_eq (c : Dev nD) (s : SemLoc sig) {u : Use} (hu : use s = u) :
    (sched X W).expect (cell c s) 0 = (dutiesOf u).card * amountOf u := by
  unfold Schedule.expect Schedule.amountOf
  rw [duties_eq X W c s hu, Finset.sum_congr rfl fun k _ => amount_eq X W c s k hu, Finset.sum_const, smul_eq_mul]

/-- What the rest of a round with one duty hands over. -/
theorem rest_one (c : Dev nD) (s : SemLoc sig) {u : Use} (hu : use s = u) (h1 : dutiesOf u = {0}) :
    bigSep ((sched X W).duties (cell c s) 0 \ ∅) (fun k => (sched X W).payload (cell c s) 0 k) = payOf X W c 0 u := by
  rw [Finset.sdiff_empty, duties_eq X W c s hu, h1, bigSep_singleton, payload_eq X W c s 0 hu]

end Sched

/-! ## Levels -/

def levOf (ι : ℕ) : Use → ℕ
  | .none => 0
  | .bar => 1
  | .credit _ => 10 * (ι + 1) + 9
  | .snd _ _ | .asnd _ => 2
  | .rcv _ h => 10 * h + 5
  | .arcv r => 1000 + r

def lv (g : GSem nD τ sig) (ι : ℕ) : ℕ := levOf ι (use g.2)
def L (g : GSem nD τ sig) : Finset ℕ := if g.1.2 = .tc then Finset.range 8 else ∅

theorem L_of_ne (g : GSem nD τ sig) (h : g.1.2 ≠ .tc) : L g = ∅ := if_neg h
theorem L_tc (c : Dev nD) (s : SemLoc sig) : L (cell c s) = Finset.range 8 := if_pos rfl
theorem lv_eq (c : Dev nD) (s : SemLoc sig) (ι : ℕ) {u : Use} (hu : use s = u) : lv (cell c s) ι = levOf ι u := by subst hu; rfl

end Cert.RingProof

end
-- ==== Proof.Owed.lean ====
/-
# What a device owes, in which order it may wait, and the credit it starts with

A device owes seven barrier units, one block per hop of each ring, the credits of each ring, and one slot of maxima per
round of the exchange. Every wait is on a semaphore whose level is below the level of everything still owed.
-/
module

public import proofs.«01_k».proof.Proof.Sched

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The barrier units -/

/-- The device that gets barrier unit `i`, -/
def barTo : ℕ → Dev nD → Dev nD | 0 => leftOf | 1 => rightOf | r + 2 => pal r
/-- and the device that unit `i` comes from. -/
def barFrom : ℕ → Dev nD → Dev nD | 0 => rightOf | 1 => leftOf | r + 2 => pal r

theorem barTo_from (i : ℕ) (c : Dev nD) : barTo i (barFrom i c) = c := by
  match i with
  | 0 => exact left_right c
  | 1 => exact right_left c
  | r + 2 => exact pal_pal r c
theorem barFrom_to (i : ℕ) (c : Dev nD) : barFrom i (barTo i c) = c := by
  match i with
  | 0 => exact right_left c
  | 1 => exact left_right c
  | r + 2 => exact pal_pal r c

/-! ## The tallies -/

/-- The barrier units from number `b` on, -/
def oweBar (c : Dev nD) (b : ℕ) : CellTallies nD τ sig ℕ := ∑ i ∈ Finset.Ico b 7, tallyAt (barC (barTo i c)) 0 1
/-- the blocks of the hops of ring `d` from `h` on, -/
def oweHop (d : Bool) (c : Dev nD) (h : ℕ) : CellTallies nD τ sig ℕ := ∑ j ∈ Finset.Ico h (hops d), tallyAt (rcvC d j (nxt d c)) 0 NX
/-- How many credits a ring gives. -/
abbrev creds (d : Bool) : ℕ := if d then 8 else 7
/-- the credits of ring `d` from number `k` on, -/
def oweCred (d : Bool) (c : Dev nD) (k : ℕ) : CellTallies nD τ sig ℕ := ∑ j ∈ Finset.Ico k (creds d), tallyAt (credC d (prv d c)) j 1
/-- the maxima of the rounds from `f` on. -/
def oweMax (c : Dev nD) (f : ℕ) : CellTallies nD τ sig ℕ := ∑ r ∈ Finset.Ico f 5, tallyAt (arcvC r (pal r c)) 0 NA

/-- What device `c` owes once it has given `b` barrier units, started `hr` hops to the right and `hl` to the left, given
    `kr` and `kl` credits of the two rings, and started `f` rounds of the exchange. -/
def owed (c : Dev nD) (b hr hl kr kl f : ℕ) : CellTallies nD τ sig ℕ :=
  oweBar c b + oweHop true c hr + oweHop false c hl + oweCred true c kr + oweCred false c kl + oweMax c f

theorem ico_peel {M : Type} [AddCommMonoid M] {a b : ℕ} (h : a < b) (T : ℕ → M) : (∑ i ∈ Finset.Ico a b, T i) = (∑ i ∈ Finset.Ico (a + 1) b, T i) + T a := by
  rw [show Finset.Ico a b = insert a (Finset.Ico (a + 1) b) by ext x; simp only [Finset.mem_Ico, Finset.mem_insert]; omega,
    Finset.sum_insert (by rw [Finset.mem_Ico]; omega), add_comm]

theorem oweBar_peel (c : Dev nD) {b : ℕ} (h : b < 7) : oweBar c b = oweBar c (b + 1) + tallyAt (barC (barTo b c)) 0 1 := by
  unfold oweBar; exact ico_peel h _
theorem oweHop_peel (d : Bool) (c : Dev nD) {j : ℕ} (h : j < hops d) : oweHop d c j = oweHop d c (j + 1) + tallyAt (rcvC d j (nxt d c)) 0 NX := by
  unfold oweHop; exact ico_peel h _
theorem oweCred_peel (d : Bool) (c : Dev nD) {k : ℕ} (h : k < creds d) : oweCred d c k = oweCred d c (k + 1) + tallyAt (credC d (prv d c)) k 1 := by
  unfold oweCred; exact ico_peel h _
theorem oweMax_peel (c : Dev nD) {r : ℕ} (h : r < 5) : oweMax c r = oweMax c (r + 1) + tallyAt (arcvC r (pal r c)) 0 NA := by
  unfold oweMax; exact ico_peel h _

theorem owed_bar (c : Dev nD) {b : ℕ} (hr hl kr kl f : ℕ) (h : b < 7) :
    owed c b hr hl kr kl f = owed c (b + 1) hr hl kr kl f + tallyAt (barC (barTo b c)) 0 1 := by
  unfold owed; rw [oweBar_peel c h]; ac_rfl
theorem owed_right (c : Dev nD) {hr : ℕ} (b hl kr kl f : ℕ) (h : hr < 16) :
    owed c b hr hl kr kl f = owed c b (hr + 1) hl kr kl f + tallyAt (rcvC true hr (rightOf c)) 0 NX := by
  unfold owed; rw [oweHop_peel true c h]; show _ = _ + tallyAt (rcvC true hr (nxt true c)) 0 NX; ac_rfl
theorem owed_left (c : Dev nD) {hl : ℕ} (b hr kr kl f : ℕ) (h : hl < 15) :
    owed c b hr hl kr kl f = owed c b hr (hl + 1) kr kl f + tallyAt (rcvC false hl (leftOf c)) 0 NX := by
  unfold owed; rw [oweHop_peel false c h]; show _ = _ + tallyAt (rcvC false hl (nxt false c)) 0 NX; ac_rfl
theorem owed_credr (c : Dev nD) {kr : ℕ} (b hr hl kl f : ℕ) (h : kr < 8) :
    owed c b hr hl kr kl f = owed c b hr hl (kr + 1) kl f + tallyAt (credC true (leftOf c)) kr 1 := by
  unfold owed; rw [oweCred_peel true c h]; show _ = _ + tallyAt (credC true (prv true c)) kr 1; ac_rfl
theorem owed_credl (c : Dev nD) {kl : ℕ} (b hr hl kr f : ℕ) (h : kl < 7) :
    owed c b hr hl kr kl f = owed c b hr hl kr (kl + 1) f + tallyAt (credC false (rightOf c)) kl 1 := by
  unfold owed; rw [oweCred_peel false c h]; show _ = _ + tallyAt (credC false (prv false c)) kl 1; ac_rfl
theorem owed_max (c : Dev nD) {f : ℕ} (b hr hl kr kl : ℕ) (h : f < 5) :
    owed c b hr hl kr kl f = owed c b hr hl kr kl (f + 1) + tallyAt (arcvC f (pal f c)) 0 NA := by
  unfold owed; rw [oweMax_peel c h]; ac_rfl

theorem owed_done (c : Dev nD) : owed c 7 16 15 8 7 5 = 0 := by
  unfold owed oweBar oweHop oweCred oweMax
  simp only [hops, creds, if_true, Bool.false_eq_true, if_false, Finset.Ico_self, Finset.sum_empty, add_zero]

/-! ## Waiting -/

theorem owed_pos {c : Dev nD} {b hr hl kr kl f : ℕ} {g : GSem nD τ sig} {i : ℕ} (h : 0 < owed c b hr hl kr kl f g i) :
    i ∈ L g ∧ ((b < 7 ∧ lv g i = 1) ∨ (hr < 16 ∧ 10 * hr + 5 ≤ lv g i) ∨ (hl < 15 ∧ 10 * hl + 5 ≤ lv g i)
      ∨ (kr < 8 ∧ 10 * (kr + 1) + 9 ≤ lv g i) ∨ (kl < 7 ∧ 10 * (kl + 1) + 9 ≤ lv g i) ∨ (f < 5 ∧ 1000 + f ≤ lv g i)) := by
  have hop (d : Bool) (a : ℕ) (h : 0 < oweHop d c a g i) : i ∈ L g ∧ a < hops d ∧ 10 * a + 5 ≤ lv g i := by
    obtain ⟨j, hj, h⟩ := Pipeline.sum_pos_exists h
    obtain ⟨rfl, rfl⟩ := Pipeline.tallyAt_pos h
    rw [Finset.mem_Ico] at hj
    rw [L_tc, lv_eq _ _ _ (use_rcv hj.2)]
    exact ⟨by simp, by omega, by show _ ≤ 10 * j + 5; omega⟩
  have cred (d : Bool) (a : ℕ) (h : 0 < oweCred d c a g i) : i ∈ L g ∧ a < creds d ∧ 10 * (a + 1) + 9 ≤ lv g i := by
    obtain ⟨j, hj, h⟩ := Pipeline.sum_pos_exists h
    obtain ⟨rfl, rfl⟩ := Pipeline.tallyAt_pos h
    rw [Finset.mem_Ico] at hj
    rw [L_tc, lv_eq _ _ _ (use_credit d)]
    refine ⟨?_, by omega, by show _ ≤ 10 * (i + 1) + 9; omega⟩
    rw [Finset.mem_range]; have := hj.2; cases d <;> simp only [creds, if_true, Bool.false_eq_true, if_false] at this <;> omega
  unfold owed at h
  rcases Pipeline.add_pos_cases h with h | h
  · rcases Pipeline.add_pos_cases h with h | h
    · rcases Pipeline.add_pos_cases h with h | h
      · rcases Pipeline.add_pos_cases h with h | h
        · rcases Pipeline.add_pos_cases h with h | h
          · obtain ⟨j, hj, h⟩ := Pipeline.sum_pos_exists h
            obtain ⟨rfl, rfl⟩ := Pipeline.tallyAt_pos h
            rw [Finset.mem_Ico] at hj
            rw [L_tc, lv_eq _ _ _ use_bar]
            exact ⟨by simp, .inl ⟨by omega, rfl⟩⟩
          · exact ⟨(hop true _ h).1, .inr (.inl (hop true _ h).2)⟩
        · exact ⟨(hop false _ h).1, .inr (.inr (.inl (hop false _ h).2))⟩
      · exact ⟨(cred true _ h).1, .inr (.inr (.inr (.inl (cred true _ h).2)))⟩
    · exact ⟨(cred false _ h).1, .inr (.inr (.inr (.inr (.inl (cred false _ h).2))))⟩
  · obtain ⟨j, hj, h⟩ := Pipeline.sum_pos_exists h
    obtain ⟨rfl, rfl⟩ := Pipeline.tallyAt_pos h
    rw [Finset.mem_Ico] at hj
    rw [L_tc, lv_eq _ _ _ (use_arcv hj.2)]
    exact ⟨by simp, .inr (.inr (.inr (.inr (.inr ⟨by omega, by show _ ≤ 1000 + j; omega⟩))))⟩

/-- A device may wait below the level of all it owes. -/
theorem mayWait (c : Dev nD) (s : SemLoc sig) {u : Use} (ι b hr hl kr kl f : ℕ) (hu : use s = u) (hι : ι < 8)
    (h : (b < 7 → levOf ι u < 1) ∧ (hr < 16 → levOf ι u < 10 * hr + 5) ∧ (hl < 15 → levOf ι u < 10 * hl + 5)
      ∧ (kr < 8 → levOf ι u < 10 * (kr + 1) + 9) ∧ (kl < 7 → levOf ι u < 10 * (kl + 1) + 9) ∧ (f < 5 → levOf ι u < 1000 + f)) :
    (levAts L lv : sProp 𝕄) ⊢ MayWait (c : Thread nD τ) s ι (owed c b hr hl kr kl f) := by
  refine Pipeline.mayWait_of_levAts ?_ fun g i hg => ?_
  · show ι ∈ L (cell c s); rw [L_tc, Finset.mem_range]; exact hι
  · obtain ⟨h1, h2⟩ := owed_pos hg
    refine ⟨h1, ?_⟩
    show lv (cell c s) ι < _
    rw [lv_eq c s ι hu]
    omega

/-! ## The credit a device starts with -/

/-- The credit device `c` waits with. -/
def startCred (c : Dev nD) : sProp 𝕄 :=
  iprop(cred (tallyAt (barC c) 0 7)
    ∗ (bigSep (Finset.Ico 0 16) fun j => cred (tallyAt (rcvC true j c) 0 NX)) ∗ (bigSep (Finset.Ico 0 15) fun j => cred (tallyAt (rcvC false j c) 0 NX))
    ∗ (bigSep (Finset.Ico 0 8) fun j => cred (tallyAt (credC true c) j 1)) ∗ (bigSep (Finset.Ico 0 7) fun j => cred (tallyAt (credC false c) j 1))
    ∗ (bigSep (Finset.Ico 0 5) fun r => cred (tallyAt (arcvC r c) 0 NA)))

theorem startCred_intro (c : Dev nD) : (Pipeline.launchCred (fun d => owed d 0 0 0 0 0 0) c : sProp 𝕄) ⊢ startCred c := by
  unfold owed startCred
  rw [Pipeline.launchCred_add, Pipeline.launchCred_add, Pipeline.launchCred_add, Pipeline.launchCred_add, Pipeline.launchCred_add]
  have hbar : (Pipeline.launchCred (fun d => oweBar d 0) c : sProp 𝕄) ⊢ cred (tallyAt (barC c) 0 7) := by
    unfold oweBar
    rw [Pipeline.launchCred_sum]
    refine (bigSep_mono fun i _ => Pipeline.launchCred_tallyAt (.reg barS) (barTo i) (barFrom i) (barTo_from i) (barFrom_to i) 0 1 c).trans ?_
    rw [← Pipeline.cred_finsetSum]
    refine Entails.of_eq (congrArg cred ?_)
    rw [Finset.sum_const, Nat.card_Ico]
    funext g; refine Finsupp.ext fun i => ?_
    rw [Pi.smul_apply, Finsupp.smul_apply, tallyAt_apply, tallyAt_apply]
    split <;> rfl
  have hhop (d : Bool) : (Pipeline.launchCred (fun e => oweHop d e 0) c : sProp 𝕄) ⊢ bigSep (Finset.Ico 0 (hops d)) fun j => cred (tallyAt (rcvC d j c) 0 NX) := by
    unfold oweHop
    rw [Pipeline.launchCred_sum]
    exact bigSep_mono fun j _ => Pipeline.launchCred_tallyAt (.dma (rcvS d j)) (nxt d) (prv d) (nxt_prv d) (prv_nxt d) 0 NX c
  have hcred (d : Bool) : (Pipeline.launchCred (fun e => oweCred d e 0) c : sProp 𝕄) ⊢ bigSep (Finset.Ico 0 (creds d)) fun j => cred (tallyAt (credC d c) j 1) := by
    unfold oweCred
    rw [Pipeline.launchCred_sum]
    exact bigSep_mono fun j _ => Pipeline.launchCred_tallyAt (.reg (creditS d)) (prv d) (nxt d) (prv_nxt d) (nxt_prv d) j 1 c
  have hmax : (Pipeline.launchCred (fun e => oweMax e 0) c : sProp 𝕄) ⊢ bigSep (Finset.Ico 0 5) fun r => cred (tallyAt (arcvC r c) 0 NA) := by
    unfold oweMax
    rw [Pipeline.launchCred_sum]
    exact bigSep_mono fun r _ => Pipeline.launchCred_tallyAt (.dma (arcvS r)) (pal r) (pal r) (pal_pal r) (pal_pal r) 0 NA c
  iintro ⟨⟨⟨⟨⟨B, HR⟩, HL⟩, KR⟩, KL⟩, M⟩
  isplitl [B]; · iapply hbar; iexact B
  isplitl [HR]; · iapply hhop true; iexact HR
  isplitl [HL]; · iapply hhop false; iexact HL
  isplitl [KR]; · iapply hcred true; iexact KR
  isplitl [KL]; · iapply hcred false; iexact KL
  iapply hmax; iexact M

end Cert.RingProof

end
-- ==== Proof.Steps.lean ====
/-
# The steps of the kernel's body, one lemma per kind of operation

Every lemma is a rule for running one operation on device `c`: the resources it takes, and those it leaves for what
follows. `known` is what every device knows throughout: the schedule governs every semaphore.
-/
module

public import proofs.«01_k».proof.Proof.Owed

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The kernel calls no labelled program. -/
abbrev 𝒱₀ : Variants := Variants.none

/-- Running `p` on device `c` ends in `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- The semaphores in use. -/
abbrev CI : Type := {s : SemLoc sig // use s ≠ .none}

/-- One of them on one device, as a cell of the machine. -/
def kcell (ck : Dev nD × CI) : GSem nD τ sig := cell ck.1 ck.2.val

section Steps

variable (X : Dev nD → Vec F S128x4096 .f32) (W : Dev nD → Vec F S4096x256 .f32) (K : Dev nD × CI → ℕ)

/-- What every device knows: the order of the waits, and that every semaphore in use follows the schedule. -/
def known : sProp 𝕄 :=
  iprop(levAts L lv ∗ (bigSep Finset.univ fun ck : Dev nD × CI => cellInv ER (sched X W) (K ck) (kcell ck))
    ∗ bigSep Finset.univ fun ck : Dev nD × CI => reached ER (kcell ck) 0)

instance known_persistent : BI.Persistent (known X W K) := by unfold known; infer_instance

theorem known_inv (c : Dev nD) (s : SemLoc sig) (h : use s ≠ .none) :
    (known X W K : sProp 𝕄) ⊢ cellInv ER (sched X W) (K (c, ⟨s, h⟩)) (cell c s) := by
  have hm : (bigSep Finset.univ fun ck : Dev nD × CI => (cellInv ER (sched X W) (K ck) (kcell ck) : sProp 𝕄))
      ⊢ cellInv ER (sched X W) (K (c, ⟨s, h⟩)) (kcell (c, ⟨s, h⟩)) := bigSep_elim (Finset.mem_univ _)
  unfold known; iintro ⟨-, H, -⟩
  iapply hm; iexact H

theorem known_reached (c : Dev nD) (s : SemLoc sig) (h : use s ≠ .none) : (known X W K : sProp 𝕄) ⊢ reached ER (cell c s) 0 := by
  have hm : (bigSep Finset.univ fun ck : Dev nD × CI => (reached ER (kcell ck) 0 : sProp 𝕄)) ⊢ reached ER (kcell (c, ⟨s, h⟩)) 0 :=
    bigSep_elim (Finset.mem_univ _)
  unfold known; iintro ⟨-, -, H⟩
  iapply hm; iexact H

theorem known_wait (c : Dev nD) (s : SemLoc sig) {u : Use} (ι b hr hl kr kl f : ℕ) (hu : use s = u) (hι : ι < 8)
    (h : (b < 7 → levOf ι u < 1) ∧ (hr < 16 → levOf ι u < 10 * hr + 5) ∧ (hl < 15 → levOf ι u < 10 * hl + 5)
      ∧ (kr < 8 → levOf ι u < 10 * (kr + 1) + 9) ∧ (kl < 7 → levOf ι u < 10 * (kl + 1) + 9) ∧ (f < 5 → levOf ι u < 1000 + f)) :
    (known X W K : sProp 𝕄) ⊢ MayWait (c : Thread nD τ) s ι (owed c b hr hl kr kl f) := by
  have hm := mayWait (F := F) c s ι b hr hl kr kl f hu hι h
  unfold known; iintro ⟨H, -, -⟩; iapply hm; iexact H

/-- What the device owes, whatever waits it has made. -/
def owing (c : Dev nD) (O : CellTallies nD τ sig ℕ) : sProp 𝕄 := iprop(∃ V : Waits sig ℕ, owes (c : Thread nD τ) O V)

/-! ## Giving units -/

/-- Barrier unit `i`. -/
theorem wp_bar_signal (c n : Dev nD) (i hr hl kr kl f : ℕ) (hi : i < 7) (hn : n = barTo i c) {α : Type} {Q : α → sProp 𝕄}
    {k : PUnit → Prog (TpuEff nD τ sig (Elt F) Λ₀ .tc) α} :
    iprop(known X W K ∗ owing c (owed c i hr hl kr kl f) ∗ dutyTok ER (barC (barTo i c)) 0 i ∗ entered (F := F) (barTo i c) i)
      ⊢ iprop((owing c (owed c (i + 1) hr hl kr kl f) -∗ runs c (k ⟨⟩) Q)
          -∗ runs c (.op (.semSignal (n : Thread nD τ) barS (1#32 : BitVec 32).toInt) k) Q) := by
  subst hn
  have hu := use_bar
  iintro ⟨#HK, HO, Ht, Hp⟩ Hk
  unfold owing
  icases HO with ⟨%V, HO⟩
  iapply (Rounds.wp_signal 𝒱₀ ER (sched X W) (c : Thread nD τ) none (dst := (barTo i c : Thread nD τ)) (κ := K (barTo i c, ⟨.reg barS, by rw [hu]; decide⟩))
      (d := i) (k' := 1) (by rw [duties_eq X W _ _ hu]; exact Finset.mem_range.mpr hi) (amount_eq X W _ _ _ hu) 0
      (owed c (i + 1) hr hl kr kl f) (owed_bar c hr hl kr kl f hi)) $$ [HO Ht Hp]
  · isplitr; · iapply (known_inv X W K (barTo i c) (.reg barS)); iexact HK
    isplitl [HO]; · iexact HO
    isplitl [Ht]; · iexact Ht
    isplitl [Hp]; · rw [payload_eq X W _ _ _ hu]; unfold payOf; iexact Hp
    iapply (known_reached X W K (barTo i c) (.reg barS) (by rw [hu]; decide)); iexact HK
  iintro HO
  iapply Hk
  iexists V; iexact HO

/-- A credit. -/
theorem wp_cred_signal (d : Bool) (c n : Dev nD) (i : ℕ) (O O' : CellTallies nD τ sig ℕ) (hi : i < creds d) (hn : n = prv d c)
    (hO : O = O' + tallyAt (credC d (prv d c)) i 1) {α : Type} {Q : α → sProp 𝕄} {k : PUnit → Prog (TpuEff nD τ sig (Elt F) Λ₀ .tc) α} :
    iprop(known X W K ∗ owing c O ∗ dutyTok ER (credC d (prv d c)) 0 i)
      ⊢ iprop((owing c O' -∗ runs c (k ⟨⟩) Q)
          -∗ runs c (.op (.semSignal (n : Thread nD τ) (creditS d) (1#32 : BitVec 32).toInt) k) Q) := by
  subst hn
  have hu := use_credit d
  iintro ⟨#HK, HO, Ht⟩ Hk
  unfold owing
  icases HO with ⟨%V, HO⟩
  iapply (Rounds.wp_signal 𝒱₀ ER (sched X W) (c : Thread nD τ) none (dst := (prv d c : Thread nD τ)) (κ := K (prv d c, ⟨.reg (creditS d), by rw [hu]; exact fun h => by cases h⟩))
      (d := i) (k' := 1) (by rw [duties_eq X W _ _ hu]; exact Finset.mem_range.mpr hi) (amount_eq X W _ _ _ hu) i O' hO) $$ [HO Ht]
  · isplitr; · iapply (known_inv X W K (prv d c) (.reg (creditS d))); iexact HK
    isplitl [HO]; · iexact HO
    isplitl [Ht]; · iexact Ht
    isplitr; · rw [payload_eq X W _ _ _ hu]; unfold payOf; iempintro
    iapply (known_reached X W K (prv d c) (.reg (creditS d)) (by rw [hu]; exact fun h => by cases h)); iexact HK
  iintro HO
  iapply Hk
  iexists V; iexact HO

/-! ## Waiting for units -/

/-- The barrier: the seven units arrive. -/
theorem wp_bar_wait (c : Dev nD) {α : Type} {Q : α → sProp 𝕄} {k : PUnit → Prog (TpuEff nD τ sig (Elt F) Λ₀ .tc) α} :
    iprop(known X W K ∗ owing c (owed c 7 0 0 0 0 0) ∗ cred (tallyAt (barC c) 0 7) ∗ atPos ER (barC c) 0 ∅ 0)
      ⊢ iprop((owing c (owed c 7 0 0 0 0 0) ∗ semVal (barC c) 0 ∗ (bigSep (Finset.range 7) fun i => entered (F := F) c i) -∗ runs c (k ⟨⟩) Q)
          -∗ runs c (.op (.semWait barS (7#32 : BitVec 32).toInt) k) Q) := by
  have hu := use_bar
  iintro ⟨#HK, HO, Hc, Hat⟩ Hk
  unfold owing
  icases HO with ⟨%V, HO⟩
  iapply (Rounds.wp_wait_rest_token 𝒱₀ ER (sched X W) (c : Thread nD τ) none (κ := K (c, ⟨.reg barS, by rw [hu]; decide⟩))
      (wpE_semWait_eq 𝒱₀ (c : Thread nD τ) none Set.univ) (Set.mem_univ _) 0 (O := owed c 7 0 0 0 0 0) (W := V) (R := 0) (m := 0) (T := ∅) (k' := 7)
      (by rw [expect_eq X W _ _ hu]; rfl)) $$ [HO Hc Hat]
  · isplitr; · iapply (known_inv X W K c (.reg barS)); iexact HK
    isplitl [Hc]; · iexact Hc
    isplitl [HO]; · iexact HO
    isplitr; · iapply (known_wait X W K c (.reg barS) 0 7 0 0 0 0 0 hu (by omega) (by simp [levOf])); iexact HK
    iexact Hat
  iintro ⟨HO, Hat, -, Hpay⟩
  imod (Rounds.cell_close ER (sched X W) (Set.mem_univ (K (c, ⟨.reg barS, by rw [hu]; decide⟩))) (fun h => h) (R := 0 + 1) (duties_later X W (barC c))) $$ [Hat] with Hz
  · isplitr; · iapply (known_inv X W K c (.reg barS)); iexact HK
    iexact Hat
  iapply Hk
  isplitl [HO]; · iexists _; iexact HO
  isplitl [Hz]; · iexact Hz
  rw [Finset.sdiff_empty, duties_eq X W c _ hu]
  iapply (show _ ⊢ _ from bigSep_mono fun i _ => Entails.of_eq (payload_eq X W c (.reg barS) i hu)); iexact Hpay

/-- The credits of ring `d` on device `c` once `j` have been waited for. -/
def creditAt (d : Bool) (j : ℕ) (c : Dev nD) : sProp 𝕄 :=
  if j < creds d then iprop(∃ S : Finset ℕ, atPos ER (credC d c) 0 S j) else semVal (credC d c) 0

/-- Credit number `j`. -/
theorem wp_cred_wait (d : Bool) (c : Dev nD) (j hr hl kr kl f : ℕ) (hj : j < creds d)
    (hlev : (hr < 16 → 10 * (j + 1) + 9 < 10 * hr + 5) ∧ (hl < 15 → 10 * (j + 1) + 9 < 10 * hl + 5)
      ∧ (kr < 8 → 10 * (j + 1) + 9 < 10 * (kr + 1) + 9) ∧ (kl < 7 → 10 * (j + 1) + 9 < 10 * (kl + 1) + 9))
    {α : Type} {Q : α → sProp 𝕄} {k : PUnit → Prog (TpuEff nD τ sig (Elt F) Λ₀ .tc) α} :
    iprop(known X W K ∗ owing c (owed c 7 hr hl kr kl f) ∗ cred (tallyAt (credC d c) j 1) ∗ creditAt (F := F) d j c)
      ⊢ iprop((owing c (owed c 7 hr hl kr kl f) ∗ creditAt (F := F) d (j + 1) c -∗ runs c (k ⟨⟩) Q)
          -∗ runs c (.op (.semWait (creditS d) (1#32 : BitVec 32).toInt) k) Q) := by
  have hu := use_credit d
  have hne : use (.reg (creditS d)) ≠ .none := by rw [hu]; exact fun h => by cases h
  have hj8 : j < 8 := lt_of_lt_of_le hj (by cases d <;> decide)
  have hw : (known X W K : sProp 𝕄) ⊢ MayWait (c : Thread nD τ) (.reg (creditS d)) j (owed c 7 hr hl kr kl f) :=
    known_wait X W K c _ j 7 hr hl kr kl f hu hj8 (by simp only [levOf]; omega)
  have hexp : (sched X W).expect (credC d c) 0 = creds d := by rw [expect_eq X W _ _ hu]; cases d <;> rfl
  unfold owing creditAt
  rw [if_pos hj]
  by_cases hl' : j + 1 < creds d
  · rw [if_pos hl']
    iintro ⟨#HK, ⟨%V, HO⟩, Hc, ⟨%S, Hat⟩⟩ Hk
    iapply (Rounds.wp_wait 𝒱₀ ER (sched X W) (c : Thread nD τ) none (κ := K (c, ⟨.reg (creditS d), hne⟩))
      (wpE_semWait_eq 𝒱₀ (c : Thread nD τ) none Set.univ) (Set.mem_univ _) (cr := Finsupp.single j 1) (O := owed c 7 hr hl kr kl f) (W := V)
      {(SemLoc.reg (creditS d), j)} (R := 0) (m := j) (T := S) (k' := 1) (by rw [Util.total_single]) (image_single_subset _ j 1)) $$ [HO Hc Hat]
    · isplitr; · iapply (known_inv X W K c (.reg (creditS d))); iexact HK
      isplitl [Hc]; · iexact Hc
      isplitl [HO]; · iexact HO
      isplitr; · iapply hw; iexact HK
      iexact Hat
    iintro %S' ⟨-, HO, Hat, -⟩
    iapply Hk
    isplitl [HO]; · iexists _; iexact HO
    iexists S'; iexact Hat
  · rw [if_neg hl']
    iintro ⟨#HK, ⟨%V, HO⟩, Hc, ⟨%S, Hat⟩⟩ Hk
    iapply (Rounds.wp_wait_rest_token 𝒱₀ ER (sched X W) (c : Thread nD τ) none (κ := K (c, ⟨.reg (creditS d), hne⟩))
      (wpE_semWait_eq 𝒱₀ (c : Thread nD τ) none Set.univ) (Set.mem_univ _) j (O := owed c 7 hr hl kr kl f) (W := V) (R := 0) (m := j) (T := S) (k' := 1)
      (by rw [hexp]; omega)) $$ [HO Hc Hat]
    · isplitr; · iapply (known_inv X W K c (.reg (creditS d))); iexact HK
      isplitl [Hc]; · iexact Hc
      isplitl [HO]; · iexact HO
      isplitr; · iapply hw; iexact HK
      iexact Hat
    iintro ⟨HO, Hat, -, -⟩
    imod (Rounds.cell_close ER (sched X W) (Set.mem_univ (K (c, ⟨.reg (creditS d), hne⟩))) (fun h => h) (R := 0 + 1) (duties_later X W (credC d c))) $$ [Hat] with Hz
    · isplitr; · iapply (known_inv X W K c (.reg (creditS d))); iexact HK
      iexact Hat
    iapply Hk
    isplitl [HO]; · iexists _; iexact HO
    iexact Hz

/-- The end of a transfer: what the one duty of the semaphore hands over. -/
theorem wp_dma_wait (c : Dev nD) (s t : DmaSem sig) (hs : t = s) {u : Use} {A : ℕ} (hr hl kr kl f : ℕ) (hu : use (.dma s) = u) (hne : u ≠ .none)
    (h1 : dutiesOf u = {0}) (hA : amountOf u = A)
    (hlev : (hr < 16 → levOf 0 u < 10 * hr + 5) ∧ (hl < 15 → levOf 0 u < 10 * hl + 5)
      ∧ (kr < 8 → levOf 0 u < 10 * (kr + 1) + 9) ∧ (kl < 7 → levOf 0 u < 10 * (kl + 1) + 9) ∧ (f < 5 → levOf 0 u < 1000 + f))
    {e e' : EltTy} {sh sh' : Shape} {src : Memref sig .tc .vmem sh e} {dst : Memref sig .tc .vmem sh' e'} (hd : dst.view.dmaCredit = A)
    {hs1 : src.view.WordExact} {hs2 : dst.view.WordExact} {α : Type} {Q : α → sProp 𝕄} {k : PUnit → Prog (TpuEff nD τ sig (Elt F) Λ₀ .tc) α} :
    iprop(known X W K ∗ owing c (owed c 7 hr hl kr kl f) ∗ cred (tallyAt (cell c (.dma s)) 0 A) ∗ atPos ER (cell c (.dma s)) 0 ∅ 0)
      ⊢ iprop((owing c (owed c 7 hr hl kr kl f) ∗ semVal (cell c (.dma s)) 0 ∗ payOf X W c 0 u -∗ runs c (k ⟨⟩) Q)
          -∗ runs c (.op (.waitDma2 (p := .tc) t src dst hs1 hs2) k) Q) := by
  subst hs; subst hA
  have hne' : use (.dma t) ≠ .none := by rw [hu]; exact hne
  have hexp : (sched X W).expect (cell c (.dma t)) 0 = dst.view.dmaCredit := by rw [expect_eq X W _ _ hu, h1, hd, Finset.card_singleton, Nat.one_mul]
  have hw : (known X W K : sProp 𝕄) ⊢ MayWait (c : Thread nD τ) (.dma t) 0 (owed c 7 hr hl kr kl f) :=
    known_wait X W K c _ 0 7 hr hl kr kl f hu (by omega) ⟨fun h => absurd h (by omega), hlev⟩
  rw [← hd]
  unfold owing
  iintro ⟨#HK, ⟨%V, HO⟩, Hc, Hat⟩ Hk
  iapply (Rounds.wp_wait_rest_token 𝒱₀ ER (sched X W) (c : Thread nD τ) none (κ := K (c, ⟨.dma t, hne'⟩))
      (wpE_waitDma2_eq 𝒱₀ (c : Thread nD τ) none Set.univ) (Set.mem_univ _) 0 (O := owed c 7 hr hl kr kl f) (W := V) (R := 0) (m := 0) (T := ∅)
      (by rw [Nat.zero_add, hexp])) $$ [HO Hc Hat]
  · isplitr; · iapply (known_inv X W K c (.dma t) hne'); iexact HK
    isplitl [Hc]; · iexact Hc
    isplitl [HO]; · iexact HO
    isplitr; · iapply hw; iexact HK
    iexact Hat
  iintro ⟨HO, Hat, -, Hpay⟩
  imod (Rounds.cell_close ER (sched X W) (Set.mem_univ (K (c, ⟨.dma t, hne'⟩))) (fun h => h) (R := 0 + 1) (duties_later X W (cell c (.dma t)))) $$ [Hat] with Hz
  · isplitr; · iapply (known_inv X W K c (.dma t) hne'); iexact HK
    iexact Hat
  iapply Hk
  isplitl [HO]; · iexists _; iexact HO
  isplitl [Hz]; · iexact Hz
  iapply (show _ ⊢ _ from Entails.of_eq (rest_one X W c (.dma t) hu h1)); iexact Hpay

end Steps

end Cert.RingProof

end
-- ==== Proof.Moves.lean ====
/-
# The copies, loads and stores of the kernel's body, one lemma per kind

A hop of a ring sends a block to the next device and hands over, with it, slots of the other ring that are free again.
A round of the exchange sends the running maximum to the partner. Loads leave what they read where it was; a store of a
product makes one block's rows of the result buffer correct.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Slots at computed offsets -/

theorem slot_eq (d : Bool) (h : ℕ) {off : Fin 3 → ℕ} (ho : off = slotOff h) (hin : ∀ a, off a + S1x128x4096.size a ≤ S8x128x4096.size a) :
    ((ringM d).slice (Rect.unit (s := S8x128x4096) off S1x128x4096.size hin) (fun _ => rfl)).squeeze S128x4096 squeezes_S1x128x4096_S128x4096 = slot d h := by
  subst ho; rfl

theorem aslot_eq (r : ℕ) {off : Fin 3 → ℕ} (ho : off = ![r % 6, 0, 0]) (hin : ∀ a, off a + S1x8x128.size a ≤ S6x8x128.size a) :
    (aM.slice (Rect.unit (s := S6x8x128) off S1x8x128.size hin) (fun _ => rfl)).squeeze S8x128 squeezes_S1x8x128_S8x128 = aslot r := by
  subst ho; rfl

/-! ## Whole buffers -/

theorem filled_x (x : Vec F S128x4096 .f32) : filled xM x = x := View.write_whole_univ _ _ _
theorem filled_w (x : Vec F S4096x256 .f32) : filled wM x = x := View.write_whole_univ _ _ _

theorem holds_x (c : Dev nD) (q : PosShare TreeShare) (x : Vec F S128x4096 .f32) :
    (holds c xM q x : sProp 𝕄) = ((c : Thread nD τ).loc cc0_stg0_0 ↦{q} x) := by
  unfold holds; rw [filled_x, View.set_whole]
theorem holds_w (c : Dev nD) (q : PosShare TreeShare) (x : Vec F S4096x256 .f32) :
    (holds c wM q x : sProp 𝕄) = ((c : Thread nD τ).loc cc0_stg1_0 ↦{q} x) := by
  unfold holds; rw [filled_w, View.set_whole]

/-- Share of `x`: two parts to send, one to keep. -/
theorem x_split (c : Dev nD) (x : Vec F S128x4096 .f32) :
    (holds c xM fullShare x : sProp 𝕄) ⊣⊢ iprop((holds c xM (sendShare true) x ∗ holds c xM (sendShare false) x) ∗ holds c xM fullShare.right x) :=
  (holds_halves c xM fullShare x).trans ⟨sep_mono_left (holds_halves c xM fullShare.left x).1, sep_mono_left (holds_halves c xM fullShare.left x).2⟩

section Moves

variable (X : Dev nD → Vec F S128x4096 .f32) (W : Dev nD → Vec F S4096x256 .f32) (K : Dev nD × CI → ℕ)

/-! ## Copies -/

/-- Where hop `h` of ring `d` copies from, -/
abbrev source (d : Bool) : ℕ → Memref sig .tc .vmem S128x4096 .f32 | 0 => xM | h + 1 => slot d h
/-- the share of it that is sent, -/
def shareOf (d : Bool) : ℕ → PosShare TreeShare | 0 => sendShare d | _ + 1 => fullShare.left
/-- and the device whose block it is. -/
def whence (d : Bool) (c : Dev nD) : ℕ → Dev nD | 0 => c | h + 1 => origin d h c

theorem sent_eq (d : Bool) (c : Dev nD) (h : ℕ) : (sent X d c h : sProp 𝕄) = holds c (source d h) (shareOf d h) (X (whence d c h)) := by
  cases h <;> rfl
theorem origin_nxt (d : Bool) (c : Dev nD) (h : ℕ) : origin d h (nxt d c) = whence d c h := by
  cases h
  · exact origin_zero_nxt d c
  · exact origin_succ d _ c

/-- Hop `h` of ring `d`. -/
theorem wp_hop_send (d : Bool) (c n : Dev nD) (h : ℕ) (hh : h < hops d) (hn : n = nxt d c) (O O' : CellTallies nD τ sig ℕ)
    (hO : O = O' + tallyAt (rcvC d h (nxt d c)) 0 NX)
    {src dst : Memref sig .tc .vmem S128x4096 .f32} (hs : src = source d h) (ht : dst = slot d h)
    {sS sR : DmaSem sig} (hsS : sS = sndS d h) (hsR : sR = rcvS d h)
    {hsc : (dst : Memref sig (Dev.tc n : Thread nD τ).2.kind .vmem S128x4096 .f32).view.ref.isScScratch = false}
    {hsrc : src.view.WordExact} {hdst : dst.view.WordExact}
    {hsem : DmaTarget.Typed .vmem (.dma sR) (.remote (Dev.tc n : Thread nD τ) (dst : Memref sig .tc .vmem S128x4096 .f32) (.dma sS) hsc)}
    {α : Type} {Q : α → sProp 𝕄} {k : PUnit → Prog (TpuEff nD τ sig (Elt F) Λ₀ .tc) α} :
    iprop(known X W K ∗ sent X d c h ∗ free (F := F) (nxt d c) (slot d h) ∗ frees (F := F) (!d) (reach (!d) h) (reach (!d) (h + 1)) c ∗ owing c O
        ∗ dutyTok ER (sndC d h c) 0 0 ∗ dutyTok ER (rcvC d h (nxt d c)) 0 0)
      ⊢ iprop((cred (tallyAt (sndC d h c) 0 NX) ∗ owing c O' -∗ runs c (k ⟨⟩) Q)
          -∗ runs c (.op (.enqueueDma src (.remote (Dev.tc n : Thread nD τ) dst (.dma sS) hsc) (.dma sR) hsrc hdst hsem) k) Q) := by
  subst hn hs ht hsS hsR
  have hu1 := use_snd hh
  have hu2 := use_rcv hh
  have hne1 : use (.dma (sndS d h)) ≠ .none := by rw [hu1]; exact fun h => by cases h
  have hne2 : use (.dma (rcvS d h)) ≠ .none := by rw [hu2]; exact fun h => by cases h
  have hN : (slot d h).view.amount (.dma (rcvS d h)) = NX := credit_slot d h
  rw [sent_eq]
  iintro ⟨#HK, Hs, Hf, Hg, HO, Ht1, Ht2⟩ Hk
  unfold owing free
  icases HO with ⟨%V, HO⟩
  icases Hf with ⟨%y, Hf⟩
  iapply (Rounds.wp_send_pointsTo_with 𝒱₀ ER (sched X W) (c : Thread nD τ) none (κ₁ := K (c, ⟨.dma (sndS d h), hne1⟩)) (κ₂ := K (nxt d c, ⟨.dma (rcvS d h), hne2⟩))
      (r₁ := 0) (r₂ := 0) (d₁ := 0) (d₂ := 0) (c' := (nxt d c : Thread nD τ)) (src := source d h) (dst := slot d h) (q := shareOf d h) (fs := filled (source d h) (X (whence d c h))) (fd := filled (slot d h) y)
      (F := frees (F := F) (!d) (reach (!d) h) (reach (!d) (h + 1)) c)
      (by rw [duties_eq X W _ _ hu1]; exact Finset.mem_singleton_self _) (by rw [duties_eq X W _ _ hu2]; exact Finset.mem_singleton_self _)
      0 0 NX hN (amount_eq X W _ _ _ hu1) (amount_eq X W _ _ _ hu2) O' hO (W := V)
      (by rw [payload_eq X W _ _ _ hu1]; show _ ⊢ sent X d c h; rw [sent_eq]; exact BI.Entails.refl _)
      (by
        rw [payload_eq X W _ _ _ hu2]; show _ ⊢ arrives X d h (nxt d c)
        unfold arrives
        rw [read_filled, holds_write, origin_nxt, prv_nxt])) $$ [Hs Hf Hg HO Ht1 Ht2]
  · isplitr; · iapply (known_inv X W K c (.dma (sndS d h)) hne1); iexact HK
    isplitr; · iapply (known_inv X W K (nxt d c) (.dma (rcvS d h)) hne2); iexact HK
    isplitl [Hs]; · unfold holds; iexact Hs
    isplitl [Hf Hg]
    · isplitl [Hf]
      · unfold holds; iexact Hf
      iexact Hg
    isplitl [HO]; · iexact HO
    isplitl [Ht1]; · iexact Ht1
    isplitr; · iapply (known_reached X W K c (.dma (sndS d h)) hne1); iexact HK
    isplitl [Ht2]; · iexact Ht2
    iapply (known_reached X W K (nxt d c) (.dma (rcvS d h)) hne2); iexact HK
  iintro ⟨Hc, HO⟩
  iapply Hk
  isplitl [Hc]; · iexact Hc
  iexists V; iexact HO

/-- Round `r` of the exchange. -/
theorem wp_max_send (c n : Dev nD) (r : ℕ) (hr : r < 5) (hn : n = pal r c)
    {src dst : Memref sig .tc .vmem S8x128 .f32} (hs : src = aslot 0) (ht : dst = aslot (r + 1))
    {sS sR : DmaSem sig} (hsS : sS = asndS r) (hsR : sR = arcvS r)
    {hsc : (dst : Memref sig (Dev.tc n : Thread nD τ).2.kind .vmem S8x128 .f32).view.ref.isScScratch = false}
    {hsrc : src.view.WordExact} {hdst : dst.view.WordExact}
    {hsem : DmaTarget.Typed .vmem (.dma sR) (.remote (Dev.tc n : Thread nD τ) (dst : Memref sig .tc .vmem S8x128 .f32) (.dma sS) hsc)}
    {α : Type} {Q : α → sProp 𝕄} {k : PUnit → Prog (TpuEff nD τ sig (Elt F) Λ₀ .tc) α} :
    iprop(known X W K ∗ holds c (aslot 0) fullShare (fun _ => top X W r c) ∗ free (F := F) (pal r c) (aslot (r + 1)) ∗ owing c (owed c 7 16 15 8 7 r)
        ∗ dutyTok ER (asndC r c) 0 0 ∗ dutyTok ER (arcvC r (pal r c)) 0 0)
      ⊢ iprop((cred (tallyAt (asndC r c) 0 NA) ∗ owing c (owed c 7 16 15 8 7 (r + 1)) -∗ runs c (k ⟨⟩) Q)
          -∗ runs c (.op (.enqueueDma src (.remote (Dev.tc n : Thread nD τ) dst (.dma sS) hsc) (.dma sR) hsrc hdst hsem) k) Q) := by
  subst hn hs ht hsS hsR
  have hu1 := use_asnd hr
  have hu2 := use_arcv hr
  have hne1 : use (.dma (asndS r)) ≠ .none := by rw [hu1]; exact fun h => by cases h
  have hne2 : use (.dma (arcvS r)) ≠ .none := by rw [hu2]; exact fun h => by cases h
  have hN : (aslot (r + 1)).view.amount (.dma (arcvS r)) = NA := credit_aslot (r + 1)
  iintro ⟨#HK, Hs, Hf, HO, Ht1, Ht2⟩ Hk
  unfold owing free
  icases HO with ⟨%V, HO⟩
  icases Hf with ⟨%y, Hf⟩
  iapply (Rounds.wp_send_pointsTo 𝒱₀ ER (sched X W) (c : Thread nD τ) none (κ₁ := K (c, ⟨.dma (asndS r), hne1⟩)) (κ₂ := K (pal r c, ⟨.dma (arcvS r), hne2⟩))
      (r₁ := 0) (r₂ := 0) (d₁ := 0) (d₂ := 0) (c' := (pal r c : Thread nD τ)) (src := aslot 0) (dst := aslot (r + 1)) (q := fullShare) (fs := filled (aslot 0) (fun _ => top X W r c)) (fd := filled (aslot (r + 1)) y)
      (by rw [duties_eq X W _ _ hu1]; exact Finset.mem_singleton_self _) (by rw [duties_eq X W _ _ hu2]; exact Finset.mem_singleton_self _)
      0 0 NA hN (amount_eq X W _ _ _ hu1) (amount_eq X W _ _ _ hu2) (owed c 7 16 15 8 7 (r + 1)) (owed_max c 7 16 15 8 7 hr) (W := V)
      (by rw [payload_eq X W _ _ _ hu1]; exact BI.Entails.refl _)
      (by
        rw [payload_eq X W _ _ _ hu2]; show _ ⊢ holds (pal r c) (aslot (r + 1)) fullShare (fun _ => top X W r (pal r (pal r c)))
        rw [read_filled, holds_write, pal_pal])) $$ [Hs Hf HO Ht1 Ht2]
  · isplitr; · iapply (known_inv X W K c (.dma (asndS r)) hne1); iexact HK
    isplitr; · iapply (known_inv X W K (pal r c) (.dma (arcvS r)) hne2); iexact HK
    isplitl [Hs]; · unfold holds; iexact Hs
    isplitl [Hf]; · unfold holds; iexact Hf
    isplitl [HO]; · iexact HO
    isplitl [Ht1]; · iexact Ht1
    isplitr; · iapply (known_reached X W K c (.dma (asndS r)) hne1); iexact HK
    isplitl [Ht2]; · iexact Ht2
    iapply (known_reached X W K (pal r c) (.dma (arcvS r)) hne2); iexact HK
  iintro ⟨Hc, HO⟩
  iapply Hk
  isplitl [Hc]; · iexact Hc
  iexists V; iexact HO

/-! ## Loads -/

theorem wp_load_x (c : Dev nD) (q : PosShare TreeShare) (x : Vec F S128x4096 .f32) {hin} {hl} {α : Type} {Q : α → sProp 𝕄}
    {k : Vec F S128x4096 .f32 → Prog (TpuEff nD τ sig (Elt F) Λ₀ .tc) α} :
    (holds c xM q x : sProp 𝕄) ⊢ iprop((holds c xM q x -∗ runs c (k x) Q)
      -∗ runs c (.op (.load xM (Rect.unit (s := S128x4096) ![0, 0] S128x4096.size hin).toLoadRect hl) k) Q) := by
  have hz : (![0, 0] : Fin 2 → ℕ) = fun _ => 0 := by decide
  have hr : xM.view.readAt (Elt F) (Rect.unit (s := S128x4096) ![0, 0] S128x4096.size hin).toLoadRect x = x := Memref.readAt_unit_zero (Elt F) cc0_stg0_0 hz hin x
  rw [holds_x]
  iintro H Hk
  iapply (wp_load 𝒱₀ (c : Thread nD τ) none Set.univ (m := xM) (Finset.subset_univ _)) $$ H
  iintro H
  rw [hr]
  iapply Hk; iexact H

theorem wp_load_w (c : Dev nD) (q : PosShare TreeShare) (x : Vec F S4096x256 .f32) {hin} {hl} {α : Type} {Q : α → sProp 𝕄}
    {k : Vec F S4096x256 .f32 → Prog (TpuEff nD τ sig (Elt F) Λ₀ .tc) α} :
    (holds c wM q x : sProp 𝕄) ⊢ iprop((holds c wM q x -∗ runs c (k x) Q)
      -∗ runs c (.op (.load wM (Rect.unit (s := S4096x256) ![0, 0] S4096x256.size hin).toLoadRect hl) k) Q) := by
  have hz : (![0, 0] : Fin 2 → ℕ) = fun _ => 0 := by decide
  have hr : wM.view.readAt (Elt F) (Rect.unit (s := S4096x256) ![0, 0] S4096x256.size hin).toLoadRect x = x := Memref.readAt_unit_zero (Elt F) cc0_stg1_0 hz hin x
  rw [holds_w]
  iintro H Hk
  iapply (wp_load 𝒱₀ (c : Thread nD τ) none Set.univ (m := wM) (Finset.subset_univ _)) $$ H
  iintro H
  rw [hr]
  iapply Hk; iexact H

/-- A slot of a ring, as the block it holds. -/
theorem wp_load_slot (d : Bool) (c : Dev nD) (h : ℕ) (q : PosShare TreeShare) (x : Vec F S128x4096 .f32)
    {m : Memref sig .tc .vmem S8x128x4096 .f32} (hm : m = ringM d) {off : Fin 3 → ℕ} (ho : off = slotOff h)
    {hin : ∀ a, off a + S1x128x4096.size a ≤ S8x128x4096.size a} {hl} {α : Type} {Q : α → sProp 𝕄}
    {k : Vec F S1x128x4096 .f32 → Prog (TpuEff nD τ sig (Elt F) Λ₀ .tc) α} :
    (holds c (slot d h) q x : sProp 𝕄) ⊢ iprop((∀ v : Vec F S1x128x4096 .f32, ⌜shapeCast S128x4096 v shapeCasts_S1x128x4096_S128x4096 = x⌝
        -∗ holds c (slot d h) q x -∗ runs c (k v) Q)
      -∗ runs c (.op (.load m (Rect.unit (s := S8x128x4096) off S1x128x4096.size hin).toLoadRect hl) k) Q) := by
  subst hm ho
  iintro H Hk
  unfold holds
  iapply (wp_load_rect 𝒱₀ (c : Thread nD τ) none Set.univ (m := ringM d) (r := Rect.unit (s := S8x128x4096) (slotOff h) S1x128x4096.size hin)
    (S := (slot d h).view.set) (q := q) (f := filled (slot d h) x) (subset_of_eq (View.set_reshape _ _).symm)) $$ H
  iintro H
  ispecialize Hk $$ %(((ringM d).access (Rect.unit (s := S8x128x4096) (slotOff h) S1x128x4096.size hin)).read (Elt F) (filled (slot d h) x))
  iapply Hk
  · ipureintro; exact read_filled (slot d h) x
  · iexact H

/-- One element of a slot all of whose elements are alike. -/
theorem wp_load_point (c : Dev nD) (r : ℕ) (b : F .f32) {off : Fin 3 → ℕ} (ho : off = ![r % 6, 0, 0])
    {hin : ∀ a, off a + S1x1x1.size a ≤ S6x8x128.size a} {hl} {α : Type} {Q : α → sProp 𝕄}
    {k : Vec F S1x1x1 .f32 → Prog (TpuEff nD τ sig (Elt F) Λ₀ .tc) α} :
    (holds c (aslot r) fullShare (fun _ => b) : sProp 𝕄) ⊢ iprop((holds c (aslot r) fullShare (fun _ => b) -∗ runs c (k fun _ => b) Q)
      -∗ runs c (.op (.load aM (Rect.unit (s := S6x8x128) off S1x1x1.size hin).toLoadRect hl) k) Q) := by
  subst ho
  have hz (y : S1x1x1.Idx) : ∃ z : S1x8x128.Idx, (Rect.unit (s := S6x8x128) ![r % 6, 0, 0] S1x1x1.size hin).emb y
      = (Rect.unit (s := S6x8x128) ![r % 6, 0, 0] S1x8x128.size (aslot_inb r)).emb z := by
    refine ⟨fun a => ⟨(y a).val, lt_of_lt_of_le (y a).isLt ?_⟩, ?_⟩
    · revert a; decide
    · funext a; exact Fin.ext (by rw [Rect.emb_apply, Rect.emb_apply]; rfl)
  have hset : (aM.access (Rect.unit (s := S6x8x128) ![r % 6, 0, 0] S1x1x1.size hin)).set ⊆ (aslot r).view.set := by
    refine subset_trans ?_ (subset_of_eq (View.set_reshape (aM.view.slice (Rect.unit (s := S6x8x128) ![r % 6, 0, 0] S1x8x128.size (aslot_inb r))) _).symm)
    intro i hi
    obtain ⟨y, -, rfl⟩ := Finset.mem_map.mp hi
    obtain ⟨z, hz⟩ := hz y
    refine Finset.mem_map.mpr ⟨z, Finset.mem_univ z, ?_⟩
    exact hz.symm
  have hread : (aM.access (Rect.unit (s := S6x8x128) ![r % 6, 0, 0] S1x1x1.size hin)).read (Elt F) (filled (aslot r) (fun _ => b)) = fun _ => b := by
    funext y
    obtain ⟨z, hz⟩ := hz y
    have h1 : (aM.access (Rect.unit (s := S6x8x128) ![r % 6, 0, 0] S1x1x1.size hin)).read (Elt F) (filled (aslot r) (fun _ => b)) y
        = (aM.access (Rect.unit (s := S6x8x128) ![r % 6, 0, 0] S1x8x128.size (aslot_inb r))).read (Elt F) (filled (aslot r) (fun _ => b)) z :=
      congrArg (aM.view.read (Elt F) (filled (aslot r) (fun _ => b))) hz
    rw [h1]
    have h2 := congrFun (read_filled (aslot r) (fun _ => b)) ((Shape.reshapeEquiv squeezes_S1x8x128_S8x128.numel_eq).symm z)
    refine Eq.trans ?_ h2
    exact congrArg ((aM.access (Rect.unit (s := S6x8x128) ![r % 6, 0, 0] S1x8x128.size (aslot_inb r))).read (Elt F) (filled (aslot r) (fun _ => b)))
      (Equiv.apply_symm_apply _ z).symm
  iintro H Hk
  unfold holds
  iapply (wp_load_rect 𝒱₀ (c : Thread nD τ) none Set.univ (m := aM) (r := Rect.unit (s := S6x8x128) ![r % 6, 0, 0] S1x1x1.size hin)
    (S := (aslot r).view.set) (q := fullShare) (f := filled (aslot r) (fun _ => b)) hset) $$ H
  iintro H
  rw [hread]
  iapply Hk; iexact H

/-- The slot that is sent: its old contents do not matter. -/
theorem wp_load_mine (c : Dev nD) (x : Vec F S8x128 .f32) {hin} {hl} {α : Type} {Q : α → sProp 𝕄}
    {k : Vec F S1x8x128 .f32 → Prog (TpuEff nD τ sig (Elt F) Λ₀ .tc) α} :
    (holds c (aslot 0) fullShare x : sProp 𝕄) ⊢ iprop((∀ v, holds c (aslot 0) fullShare x -∗ runs c (k v) Q)
      -∗ runs c (.op (.load aM (Rect.unit (s := S6x8x128) ![0, 0, 0] S1x8x128.size hin).toLoadRect hl) k) Q) := by
  iintro H Hk
  unfold holds
  iapply (wp_load_rect 𝒱₀ (c : Thread nD τ) none Set.univ (m := aM) (r := Rect.unit (s := S6x8x128) ![0, 0, 0] S1x8x128.size hin)
    (S := (aslot 0).view.set) (q := fullShare) (f := filled (aslot 0) x) (subset_of_eq (View.set_reshape _ _).symm)) $$ H
  iintro H
  iapply Hk; iexact H

/-- Storing one value all over it. -/
theorem wp_store_mine (c : Dev nD) (x : Vec F S8x128 .f32) (b : F .f32) {w : Vec F S1x8x128 .f32} (hw : w = fun _ => b) {hin} {hx} {hm} {α : Type} {Q : α → sProp 𝕄}
    {k : PUnit → Prog (TpuEff nD τ sig (Elt F) Λ₀ .tc) α} :
    (holds c (aslot 0) fullShare x : sProp 𝕄) ⊢ iprop((holds c (aslot 0) fullShare (fun _ => b) -∗ runs c (k ⟨⟩) Q)
      -∗ runs c (.op (.store aM (Rect.unit (s := S6x8x128) ![0, 0, 0] S1x8x128.size hin) w Finset.univ hx hm) k) Q) := by
  subst hw
  have hr : (aslot 0).view.read (Elt F) ((aM.access (Rect.unit (s := S6x8x128) ![0, 0, 0] S1x8x128.size hin)).write (Elt F) (filled (aslot 0) x) (fun _ => b) Finset.univ)
      = fun _ => b := by
    funext j
    exact congrFun (View.read_write_univ (v := aM.access (Rect.unit (s := S6x8x128) ![0, 0, 0] S1x8x128.size hin)) (Val := Elt F) (filled (aslot 0) x) (fun _ => b))
      (Shape.reshapeEquiv squeezes_S1x8x128_S8x128.numel_eq j)
  have hq := holds_read (F := F) c (aslot 0) fullShare ((aM.access (Rect.unit (s := S6x8x128) ![0, 0, 0] S1x8x128.size hin)).write (Elt F) (filled (aslot 0) x) (fun _ => b) Finset.univ)
  rw [hr] at hq
  rw [← hq]
  iintro H Hk
  unfold holds
  iapply (wp_store 𝒱₀ (c : Thread nD τ) none Set.univ (m := aM) (r := Rect.unit (s := S6x8x128) ![0, 0, 0] S1x8x128.size hin) (Mk := Finset.univ)
    (S := (aslot 0).view.set) (f := filled (aslot 0) x) (subset_of_eq (View.set_reshape _ _).symm)) $$ H
  iintro H
  iapply Hk; iexact H

/-! ## The result buffer -/

/-- Device `c`'s result buffer, the rows of the blocks in `S` correct. -/
def rows (c : Dev nD) (S : Dev nD → Prop) : sProp 𝕄 :=
  iprop(∃ f : Vec F S4096x256 .f32, ⌜∀ e, S e → RowsAre X W c e f⌝ ∗ ((c : Thread nD τ).loc cc0_stg2_0 ↦{fullShare} f))

theorem rows_mono (c : Dev nD) {S T : Dev nD → Prop} (h : ∀ e, T e → S e) : (rows X W c S : sProp 𝕄) ⊢ rows X W c T := by
  unfold rows
  iintro ⟨%f, %hf, H⟩
  iexists f
  isplitr; · ipureintro; exact fun e he => hf e (h e he)
  iexact H

theorem wp_load_rows (c : Dev nD) (S : Dev nD → Prop) {r : LoadRect S4096x256} {hl} {α : Type} {Q : α → sProp 𝕄}
    {k : (r.shape.Idx → Elt F .f32) → Prog (TpuEff nD τ sig (Elt F) Λ₀ .tc) α} :
    (rows X W c S : sProp 𝕄) ⊢ iprop((∀ v, rows X W c S -∗ runs c (k v) Q) -∗ runs c (.op (.load oM r hl) k) Q) := by
  unfold rows
  iintro ⟨%f, %hf, H⟩ Hk
  iapply (wp_load 𝒱₀ (c : Thread nD τ) none Set.univ (m := oM) (Finset.subset_univ _)) $$ H
  iintro H
  iapply Hk
  iexists f
  isplitr; · ipureintro; exact hf
  iexact H

theorem wp_store_rows (c : Dev nD) (S : Dev nD → Prop) (e : Dev nD) {off : Fin 2 → ℕ} (ho : off = rowOff e)
    {hin : ∀ a, off a + S128x256.size a ≤ S4096x256.size a} {w : Vec F S128x256 .f32} (hw : w = gemm (X e) (W c)) {hx} {hm} {α : Type} {Q : α → sProp 𝕄}
    {k : PUnit → Prog (TpuEff nD τ sig (Elt F) Λ₀ .tc) α} :
    (rows X W c S : sProp 𝕄) ⊢ iprop((rows X W c (fun e' => S e' ∨ e' = e) -∗ runs c (k ⟨⟩) Q)
      -∗ runs c (.op (.store oM (Rect.unit (s := S4096x256) off S128x256.size hin) w Finset.univ hx hm) k) Q) := by
  subst ho hw
  unfold rows
  iintro ⟨%f, %hf, H⟩ Hk
  iapply (wp_store 𝒱₀ (c : Thread nD τ) none Set.univ (m := oM) (r := rowR e) (Mk := Finset.univ) (Finset.subset_univ _)) $$ H
  iintro H
  iapply Hk
  iexists ((oM.access (rowR e)).write (Elt F) f (gemm (X e) (W c)) Finset.univ)
  isplitr
  · ipureintro
    intro e' he'
    by_cases h : e' = e
    · subst h; exact rowsAre_store X W c e' f
    · exact rowsAre_other X W c e' e h f _ (hf e' (he'.resolve_right h))
  iexact H

theorem wp_load_out (c : Dev nD) (x : Vec F S4096x256 .f32) {hin} {hl} {α : Type} {Q : α → sProp 𝕄}
    {k : Vec F S4096x256 .f32 → Prog (TpuEff nD τ sig (Elt F) Λ₀ .tc) α} :
    ((c : Thread nD τ).loc cc0_stg2_0 ↦{fullShare} x : sProp 𝕄) ⊢ iprop((((c : Thread nD τ).loc cc0_stg2_0 ↦{fullShare} x) -∗ runs c (k x) Q)
      -∗ runs c (.op (.load oM (Rect.unit (s := S4096x256) ![0, 0] S4096x256.size hin).toLoadRect hl) k) Q) := by
  have hz : (![0, 0] : Fin 2 → ℕ) = fun _ => 0 := by decide
  have hr : oM.view.readAt (Elt F) (Rect.unit (s := S4096x256) ![0, 0] S4096x256.size hin).toLoadRect x = x := Memref.readAt_unit_zero (Elt F) cc0_stg2_0 hz hin x
  iintro H Hk
  iapply (wp_load 𝒱₀ (c : Thread nD τ) none Set.univ (m := oM) (Finset.subset_univ _)) $$ H
  iintro H
  rw [hr]
  iapply Hk; iexact H

theorem wp_store_out (c : Dev nD) (x w : Vec F S4096x256 .f32) {hin} {hx} {hm} {α : Type} {Q : α → sProp 𝕄}
    {k : PUnit → Prog (TpuEff nD τ sig (Elt F) Λ₀ .tc) α} :
    ((c : Thread nD τ).loc cc0_stg2_0 ↦{fullShare} x : sProp 𝕄) ⊢ iprop((((c : Thread nD τ).loc cc0_stg2_0 ↦{fullShare} w) -∗ runs c (k ⟨⟩) Q)
      -∗ runs c (.op (.store oM (Rect.unit (s := S4096x256) ![0, 0] S4096x256.size hin) w Finset.univ hx hm) k) Q) := by
  have hz : (![0, 0] : Fin 2 → ℕ) = fun _ => 0 := by decide
  have hr : (oM.access (Rect.unit (s := S4096x256) ![0, 0] S4096x256.size hin)).write (Elt F) x w Finset.univ = w :=
    Memref.write_access_unit_zero_univ (Elt F) cc0_stg2_0 hz hin x w
  iintro H Hk
  iapply (wp_store 𝒱₀ (c : Thread nD τ) none Set.univ (m := oM) (r := Rect.unit (s := S4096x256) ![0, 0] S4096x256.size hin) (Mk := Finset.univ) (Finset.subset_univ _)) $$ H
  iintro H
  rw [hr]
  iapply Hk; iexact H

end Moves

end Cert.RingProof

end
-- ==== Proof.Hops.lean ====
/-
# What a device has in hand between the hops

`ringIn d t c` is what device `c` has of ring `d` when hop `t + 1` is about to start: what the remaining hops need, the
free slots of the next device it may copy into, its own slots that are free, and the block that has just arrived.
-/
module

public import proofs.«01_k».proof.Proof.Moves
public import Idealize.SL.BI.BigOpNat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem ico_bot {P : ℕ → sProp 𝕄} {a b : ℕ} (h : a < b) : bigSep (Finset.Ico a b) P ⊣⊢ iprop(P a ∗ bigSep (Finset.Ico (a + 1) b) P) := by
  rw [bigSep_Ico_succ_bot h]
theorem ico_top {P : ℕ → sProp 𝕄} {a b : ℕ} (h : a ≤ b) : bigSep (Finset.Ico a (b + 1)) P ⊣⊢ iprop(P b ∗ bigSep (Finset.Ico a b) P) := by
  rw [bigSep_Ico_succ_top h]

section Hops

variable (X : Dev nD → Vec F S128x4096 .f32) (W : Dev nD → Vec F S4096x256 .f32) (K : Dev nD × CI → ℕ)

/-! ## One hop's resources -/

/-- What hop `h` of ring `d` needs. -/
def hopKit (d : Bool) (c : Dev nD) (h : ℕ) : sProp 𝕄 :=
  iprop(atPos ER (sndC d h c) 0 ∅ 0 ∗ atPos ER (rcvC d h c) 0 ∅ 0 ∗ cred (tallyAt (rcvC d h c) 0 NX)
    ∗ dutyTok ER (sndC d h c) 0 0 ∗ dutyTok ER (rcvC d h (nxt d c)) 0 0)
/-- What the hops from `a` on need. -/
def hopTodo (d : Bool) (c : Dev nD) (a : ℕ) : sProp 𝕄 := bigSep (Finset.Ico a (hops d)) (hopKit (F := F) d c)
/-- The semaphores of the hops before `b`, back at zero. -/
def hopDone (d : Bool) (c : Dev nD) (b : ℕ) : sProp 𝕄 :=
  bigSep (Finset.Ico 0 b) fun h => iprop(semVal (sndC d h c) 0 ∗ semVal (rcvC d h c) 0)
/-- What the waits of hop `h` need once it has started. -/
def hopMid (d : Bool) (c : Dev nD) (h : ℕ) : sProp 𝕄 :=
  iprop((cred (tallyAt (sndC d h c) 0 NX) ∗ atPos ER (sndC d h c) 0 ∅ 0) ∗ (cred (tallyAt (rcvC d h c) 0 NX) ∗ atPos ER (rcvC d h c) 0 ∅ 0))

theorem hopDone_succ (d : Bool) (c : Dev nD) (b : ℕ) :
    iprop(hopDone (F := F) d c b ∗ semVal (sndC d b c) 0 ∗ semVal (rcvC d b c) 0) ⊢ hopDone (F := F) d c (b + 1) := by
  unfold hopDone
  iintro ⟨H, H1, H2⟩
  iapply (ico_top (Nat.zero_le b)).2
  isplitl [H1 H2]
  · isplitl [H1] <;> iassumption
  iexact H

/-- Starting hop `h`. -/
theorem wp_hop (d : Bool) (c n : Dev nD) (h b : ℕ) (hh : h < hops d) (hb : h < b) (hn : n = nxt d c) (O O' : CellTallies nD τ sig ℕ)
    (hO : O = O' + tallyAt (rcvC d h (nxt d c)) 0 NX)
    {src dst : Memref sig .tc .vmem S128x4096 .f32} (hs : src = source d h) (ht : dst = slot d h)
    {sS sR : DmaSem sig} (hsS : sS = sndS d h) (hsR : sR = rcvS d h)
    {hsc : (dst : Memref sig (Dev.tc n : Thread nD τ).2.kind .vmem S128x4096 .f32).view.ref.isScScratch = false}
    {hsrc : src.view.WordExact} {hdst : dst.view.WordExact}
    {hsem : DmaTarget.Typed .vmem (.dma sR) (.remote (Dev.tc n : Thread nD τ) (dst : Memref sig .tc .vmem S128x4096 .f32) (.dma sS) hsc)}
    {α : Type} {Q : α → sProp 𝕄} {k : PUnit → Prog (TpuEff nD τ sig (Elt F) Λ₀ .tc) α} :
    iprop(known X W K ∗ hopTodo (F := F) d c h ∗ sent X d c h ∗ frees (F := F) d h b (nxt d c)
        ∗ frees (F := F) (!d) (reach (!d) h) (reach (!d) (h + 1)) c ∗ owing c O)
      ⊢ iprop((hopTodo (F := F) d c (h + 1) ∗ hopMid (F := F) d c h ∗ frees (F := F) d (h + 1) b (nxt d c) ∗ owing c O' -∗ runs c (k ⟨⟩) Q)
          -∗ runs c (.op (.enqueueDma src (.remote (Dev.tc n : Thread nD τ) dst (.dma sS) hsc) (.dma sR) hsrc hdst hsem) k) Q) := by
  unfold hopTodo
  iintro ⟨#HK, Ht, Hs, Hf, Hg, HO⟩ Hk
  ihave Ht' := (ico_bot hh).1 $$ Ht
  unfold hopKit frees
  ihave Hf' := (ico_bot hb).1 $$ Hf
  icases Ht' with ⟨⟨Ha1, Ha2, Hc2, Ht1, Ht2⟩, Ht⟩
  icases Hf' with ⟨Hf1, Hf⟩
  iapply (wp_hop_send X W K d c n h hh hn O O' hO hs ht hsS hsR (hsrc := hsrc) (hdst := hdst) (hsem := hsem)) $$ [Hs Hf1 Hg HO Ht1 Ht2]
  · isplitr; · iexact HK
    isplitl [Hs]; · iexact Hs
    isplitl [Hf1]; · iexact Hf1
    isplitl [Hg]; · unfold frees; iexact Hg
    isplitl [HO]; · iexact HO
    isplitl [Ht1] <;> iassumption
  iintro ⟨Hc1, HO⟩
  iapply Hk
  isplitl [Ht]; · iexact Ht
  isplitl [Ha1 Ha2 Hc1 Hc2]
  · unfold hopMid
    isplitl [Hc1 Ha1]
    · isplitl [Hc1] <;> iassumption
    isplitl [Hc2] <;> iassumption
  isplitl [Hf]; · iexact Hf
  iexact HO

/-- Its sending end: what was sent is back. -/
theorem wp_snd_wait (d : Bool) (c : Dev nD) (h hr hl kr kl f : ℕ) (hh : h < hops d) {t : DmaSem sig} (ht : t = sndS d h)
    {sh sh' : Shape} {e e' : EltTy} {src : Memref sig .tc .vmem sh e} {dst : Memref sig .tc .vmem sh' e'} (hd : dst.view.dmaCredit = NX)
    {hs1 : src.view.WordExact} {hs2 : dst.view.WordExact} {α : Type} {Q : α → sProp 𝕄} {k : PUnit → Prog (TpuEff nD τ sig (Elt F) Λ₀ .tc) α} :
    iprop(known X W K ∗ owing c (owed c 7 hr hl kr kl f) ∗ cred (tallyAt (sndC d h c) 0 NX) ∗ atPos ER (sndC d h c) 0 ∅ 0)
      ⊢ iprop((owing c (owed c 7 hr hl kr kl f) ∗ semVal (sndC d h c) 0 ∗ sent X d c h -∗ runs c (k ⟨⟩) Q)
          -∗ runs c (.op (.waitDma2 (p := .tc) t src dst hs1 hs2) k) Q) :=
  wp_dma_wait X W K c (sndS d h) t ht (u := .snd d h) (A := NX) hr hl kr kl f (use_snd hh) (fun h => by cases h) rfl rfl
    ⟨fun _ => by simp only [levOf]; omega, fun _ => by simp only [levOf]; omega, fun _ => by simp only [levOf]; omega, fun _ => by simp only [levOf]; omega,
      fun _ => by simp only [levOf]; omega⟩ hd

/-- Its arriving end. -/
theorem wp_rcv_wait (d : Bool) (c : Dev nD) (h hr hl kr kl f : ℕ) (hh : h < hops d)
    (hlev : (hr < 16 → h < hr) ∧ (hl < 15 → h < hl) ∧ (kr < 8 → h ≤ kr + 1) ∧ (kl < 7 → h ≤ kl + 1)) {t : DmaSem sig} (ht : t = rcvS d h)
    {sh sh' : Shape} {e e' : EltTy} {src : Memref sig .tc .vmem sh e} {dst : Memref sig .tc .vmem sh' e'} (hd : dst.view.dmaCredit = NX)
    {hs1 : src.view.WordExact} {hs2 : dst.view.WordExact} {α : Type} {Q : α → sProp 𝕄} {k : PUnit → Prog (TpuEff nD τ sig (Elt F) Λ₀ .tc) α} :
    iprop(known X W K ∗ owing c (owed c 7 hr hl kr kl f) ∗ cred (tallyAt (rcvC d h c) 0 NX) ∗ atPos ER (rcvC d h c) 0 ∅ 0)
      ⊢ iprop((owing c (owed c 7 hr hl kr kl f) ∗ semVal (rcvC d h c) 0 ∗ arrives X d h c -∗ runs c (k ⟨⟩) Q)
          -∗ runs c (.op (.waitDma2 (p := .tc) t src dst hs1 hs2) k) Q) := by
  have h16 : h < 16 := lt_of_lt_of_le hh (by cases d <;> decide)
  obtain ⟨h1, h2, h3, h4⟩ := hlev
  exact wp_dma_wait X W K c (rcvS d h) t ht (u := .rcv d h) (A := NX) hr hl kr kl f (use_rcv hh) (fun h => by cases h) rfl rfl
    ⟨fun h => by have := h1 h; simp only [levOf]; omega, fun h => by have := h2 h; simp only [levOf]; omega, fun h => by have := h3 h; simp only [levOf]; omega,
      fun h => by have := h4 h; simp only [levOf]; omega, fun _ => by simp only [levOf]; omega⟩ hd

/-! ## Between the hops -/

/-- Before hop `t + 1`. -/
def ringIn (d : Bool) (t : ℕ) (c : Dev nD) : sProp 𝕄 :=
  iprop(hopTodo (F := F) d c (t + 1) ∗ frees (F := F) d (t + 1) (reach d (t + 1)) (nxt d c) ∗ frees (F := F) d (reach d (t + 1)) (t + 8) c
    ∗ holds c (slot d t) fullShare (X (origin d t c)))

/-- Once it has started. -/
def ringMid (d : Bool) (t : ℕ) (c : Dev nD) : sProp 𝕄 :=
  iprop(hopTodo (F := F) d c (t + 2) ∗ frees (F := F) d (t + 2) (reach d (t + 1)) (nxt d c) ∗ frees (F := F) d (reach d (t + 2)) (t + 8) c)

theorem frees_cat (d : Bool) (c : Dev nD) {a b e : ℕ} (h1 : a ≤ b) (h2 : b ≤ e) :
    (frees (F := F) d a e c) ⊣⊢ iprop(frees (F := F) d a b c ∗ frees (F := F) d b e c) := by
  unfold frees
  rw [← Finset.Ico_union_Ico_eq_Ico h1 h2, bigSep_union (Finset.Ico_disjoint_Ico_consecutive a b e)]
  exact ⟨BI.Entails.refl _, BI.Entails.refl _⟩

theorem slot_wrap (d : Bool) (h : ℕ) : slot d (h + 8) = slot d h :=
  slot_eq d h (off := slotOff (h + 8)) (by show ![(h + 8) % 8, 0, 0] = ![h % 8, 0, 0]; rw [Nat.add_mod_right]) (slot_inb (h + 8))

theorem frees_more (d : Bool) (c : Dev nD) {a h : ℕ} (ha : a ≤ h + 8) (x : Vec F S128x4096 .f32) :
    iprop(frees (F := F) d a (h + 8) c ∗ holds c (slot d h) fullShare x) ⊢ frees (F := F) d a (h + 9) c := by
  unfold frees
  iintro ⟨H, Hx⟩
  iapply (ico_top (b := h + 8) ha).2
  isplitl [Hx]
  · rw [slot_wrap]; iapply (free_intro c (slot d h) x); iexact Hx
  iexact H

/-- Both ends of hop `t + 1` done: before the next hop. -/
theorem ring_next (d : Bool) (t : ℕ) (c : Dev nD) (ht : t + 2 ≤ hops d) :
    iprop(ringMid (F := F) d t c ∗ sent X d c (t + 1) ∗ holds c (slot d t) fullShare.right (X (origin d t c)) ∗ holds c (slot d (t + 1)) fullShare (X (origin d (t + 1) c))
        ∗ frees (F := F) d (reach d (t + 1)) (reach d (t + 2)) (nxt d c)) ⊢ ringIn X d (t + 1) c := by
  have hr1 : t + 2 ≤ reach d (t + 1) := by unfold reach; omega
  have hr2 : reach d (t + 1) ≤ reach d (t + 2) := by unfold reach; omega
  have hr3 : reach d (t + 2) ≤ t + 8 := by unfold reach; omega
  unfold ringMid ringIn
  iintro ⟨⟨Ht, Hp, Ho⟩, Hs, Hr, Hn, Hg⟩
  isplitl [Ht]; · iexact Ht
  isplitl [Hp Hg]
  · iapply (frees_cat d (nxt d c) hr1 hr2).2
    isplitl [Hp] <;> iassumption
  isplitl [Ho Hs Hr]
  · iapply (frees_more d c hr3 (X (origin d t c)))
    isplitl [Ho]; · iexact Ho
    iapply (holds_halves c (slot d t) fullShare (X (origin d t c))).2
    isplitl [Hs]; · unfold sent; iexact Hs
    iexact Hr
  iexact Hn

end Hops

end Cert.RingProof

end
-- ==== Proof.Loop.lean ====
/-
# One trip of the kernel's loop

Trip `t` is hop `t + 1` of both rings: the blocks that arrived last are sent on, multiplied with the device's columns and
stored, and the hop's four semaphores are waited for. From the eighth trip on a credit of each ring is waited for first;
in the first eight and seven trips one is given.
-/
module

public import proofs.«01_k».proof.Proof.Hops

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A piece of the body at the kernel's own buffers and semaphores. -/
abbrev onBufs {β : Type 1} (p : (arg0 : Memref sig .tc .vmem S128x4096 .f32) → arg0.IsWhole → (arg1 : Memref sig .tc .vmem S4096x256 .f32) → arg1.IsWhole
    → (arg2 : Memref sig .tc .vmem S4096x256 .f32) → arg2.IsWhole → (arg3 : Memref sig .tc .vmem S8x128x4096 .f32) → arg3.IsWhole
    → (arg4 : Memref sig .tc .vmem S8x128x4096 .f32) → arg4.IsWhole → DmaSems sig S16 → DmaSems sig S16 → DmaSems sig S15 → DmaSems sig S15
    → Sems sig S_ → Sems sig S_ → (arg11 : Memref sig .tc .vmem S6x8x128 .f32) → arg11.IsWhole → DmaSems sig S5 → DmaSems sig S5 → β) : β :=
  p (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) cc0_scratch2 cc0_scratch3 cc0_scratch4 cc0_scratch5
    cc0_scratch6 cc0_scratch7 (Memref.whole cc0_scratch8) (Memref.isWhole_whole _) cc0_scratch9 cc0_scratch10

/-- A run that is over. -/
theorem runs_ret {c : Dev nD} {α : Type} {Q : α → sProp 𝕄} {a : α} : Q a ⊢ runs c (.ret a) Q := by
  unfold runs
  rw [wp_ret]
  exact BI.fupd_intro

/-- One run after another. -/
theorem runs_bind {c : Dev nD} {α β : Type} {Q : β → sProp 𝕄} {p : Prog (TpuEff nD τ sig (Elt F) Λ₀ .tc) α}
    {k : α → Prog (TpuEff nD τ sig (Elt F) Λ₀ .tc) β} : runs c p (fun a => runs c (k a) Q) ⊢ runs c (p >>= k) Q := by
  unfold runs
  rw [wp_bind]

/-- A hop's bytes on its semaphore, whichever slot. -/
theorem credit_at (d : Bool) {off : Fin 3 → ℕ} (hin : ∀ a, off a + S1x128x4096.size a ≤ S8x128x4096.size a) :
    (((ringM d).slice (Rect.unit (s := S8x128x4096) off S1x128x4096.size hin) (fun _ => rfl)).squeeze S128x4096 squeezes_S1x128x4096_S128x4096).view.dmaCredit = NX := by
  unfold NX; cases d <;> rfl

section Loop

variable (X : Dev nD → Vec F S128x4096 .f32) (W : Dev nD → Vec F S4096x256 .f32) (K : Dev nD × CI → ℕ)

/-! ## The credits -/

/-- The credits of ring `d` still to wait for. -/
def credWaits (d : Bool) (k : ℕ) (c : Dev nD) : sProp 𝕄 :=
  iprop((bigSep (Finset.Ico k (creds d)) fun j => cred (tallyAt (credC d c) j 1)) ∗ creditAt (F := F) d k c)
/-- The credits of ring `d` still to give. -/
def credGives (d : Bool) (k : ℕ) (c : Dev nD) : sProp 𝕄 :=
  bigSep (Finset.Ico k (creds d)) fun j => dutyTok ER (credC d (prv d c)) 0 j

/-- Waiting for credit `j`. -/
theorem wp_cred_next (d : Bool) (c : Dev nD) (j hr hl kr kl f : ℕ) (hj : j < creds d)
    (hlev : (hr < 16 → 10 * (j + 1) + 9 < 10 * hr + 5) ∧ (hl < 15 → 10 * (j + 1) + 9 < 10 * hl + 5)
      ∧ (kr < 8 → 10 * (j + 1) + 9 < 10 * (kr + 1) + 9) ∧ (kl < 7 → 10 * (j + 1) + 9 < 10 * (kl + 1) + 9))
    {s : Sem sig} (hs : s = creditS d) {α : Type} {Q : α → sProp 𝕄} {k : PUnit → Prog (TpuEff nD τ sig (Elt F) Λ₀ .tc) α} :
    iprop(known X W K ∗ owing c (owed c 7 hr hl kr kl f) ∗ credWaits (F := F) d j c)
      ⊢ iprop((owing c (owed c 7 hr hl kr kl f) ∗ credWaits (F := F) d (j + 1) c -∗ runs c (k ⟨⟩) Q)
          -∗ runs c (.op (.semWait s (1#32 : BitVec 32).toInt) k) Q) := by
  subst hs
  unfold credWaits
  iintro ⟨#HK, HO, Hc, Hat⟩ Hk
  ihave Hc' := (ico_bot hj).1 $$ Hc
  icases Hc' with ⟨Hc1, Hc⟩
  iapply (wp_cred_wait X W K d c j hr hl kr kl f hj hlev) $$ [HO Hc1 Hat]
  · isplitr; · iexact HK
    isplitl [HO]; · iexact HO
    isplitl [Hc1] <;> iassumption
  iintro ⟨HO, Hat⟩
  iapply Hk
  isplitl [HO]; · iexact HO
  isplitl [Hc] <;> iassumption

/-- Giving a credit, in the trips that give one: to the left, -/
theorem wp_give_left (c : Dev nD) (t : Fin k0_t1_loop.trips) (hr hl kl f : ℕ) {α : Type} {Q : α → sProp 𝕄} {k : Prog (TpuEff nD τ sig (Elt F) Λ₀ .tc) α} :
    iprop(known X W K ∗ owing c (owed c 7 hr hl (min t.val 8) kl f) ∗ credGives (F := F) true (min t.val 8) c)
      ⊢ iprop((owing c (owed c 7 hr hl (min (t.val + 1) 8) kl f) ∗ credGives (F := F) true (min (t.val + 1) 8) c -∗ runs c k Q)
          -∗ runs c (if h : k0_cond2 t = 1#1 then
              .op (.semSignal ((⟨k0_dev12 c, k0_dev12_lt c t h⟩ : Dev nD) : Thread nD τ) cc0_scratch6.sem (1#32 : BitVec 32).toInt) (fun _ => k) else k) Q) := by
  by_cases h : t.val < 8
  · have hc := (cond2_iff t).2 h
    rw [dif_pos hc, show min t.val 8 = t.val by omega, show min (t.val + 1) 8 = t.val + 1 by omega]
    unfold credGives
    iintro ⟨#HK, HO, Hg⟩ Hk
    ihave Hg' := (ico_bot (b := creds true) h).1 $$ Hg
    icases Hg' with ⟨Hg1, Hg⟩
    iapply (wp_cred_signal X W K true c _ t.val _ _ h (dev12_eq c _) (owed_credr c 7 hr hl kl f h)) $$ [HO Hg1]
    · isplitr; · iexact HK
      isplitl [HO] <;> iassumption
    iintro HO
    iapply Hk
    isplitl [HO] <;> iassumption
  · have hc : ¬ _ := fun hc => h ((cond2_iff t).1 hc)
    rw [dif_neg hc, show min (t.val + 1) 8 = min t.val 8 by omega]
    iintro ⟨#HK, HO, Hg⟩ Hk
    iapply Hk
    isplitl [HO] <;> iassumption

/-- and to the right. -/
theorem wp_give_right (c : Dev nD) (t : Fin k0_t1_loop.trips) (hr hl kr f : ℕ) {α : Type} {Q : α → sProp 𝕄} {k : Prog (TpuEff nD τ sig (Elt F) Λ₀ .tc) α} :
    iprop(known X W K ∗ owing c (owed c 7 hr hl kr (min t.val 7) f) ∗ credGives (F := F) false (min t.val 7) c)
      ⊢ iprop((owing c (owed c 7 hr hl kr (min (t.val + 1) 7) f) ∗ credGives (F := F) false (min (t.val + 1) 7) c -∗ runs c k Q)
          -∗ runs c (if h : k0_cond3 t = 1#1 then
              .op (.semSignal ((⟨k0_dev13 c, k0_dev13_lt c t h⟩ : Dev nD) : Thread nD τ) cc0_scratch7.sem (1#32 : BitVec 32).toInt) (fun _ => k) else k) Q) := by
  by_cases h : t.val < 7
  · have hc := (cond3_iff t).2 h
    rw [dif_pos hc, show min t.val 7 = t.val by omega, show min (t.val + 1) 7 = t.val + 1 by omega]
    unfold credGives
    iintro ⟨#HK, HO, Hg⟩ Hk
    ihave Hg' := (ico_bot (b := creds false) h).1 $$ Hg
    icases Hg' with ⟨Hg1, Hg⟩
    iapply (wp_cred_signal X W K false c _ t.val _ _ h (dev13_eq c _) (owed_credl c 7 hr hl kr f h)) $$ [HO Hg1]
    · isplitr; · iexact HK
      isplitl [HO] <;> iassumption
    iintro HO
    iapply Hk
    isplitl [HO] <;> iassumption
  · have hc : ¬ _ := fun hc => h ((cond3_iff t).1 hc)
    rw [dif_neg hc, show min (t.val + 1) 7 = min t.val 7 by omega]
    iintro ⟨#HK, HO, Hg⟩ Hk
    iapply Hk
    isplitl [HO] <;> iassumption

/-! ## The trip, piece by piece -/

/-- What is owed when trip `t` starts, `h` hops started. -/
abbrev owedAt (c : Dev nD) (h t : ℕ) : CellTallies nD τ sig ℕ := owed c 7 h h (min t 8) (min t 7) 0

theorem wp_part1 (c : Dev nD) (t : Fin k0_t1_loop.trips) {Q : (Σ' (_ : BitVec 32), BitVec 32) → sProp 𝕄} :
    iprop(known X W K ∗ owing c (owedAt c (t.val + 1) t.val) ∗ credWaits (F := F) true (t.val - 7) c ∗ credWaits (F := F) false (t.val - 7) c)
      ⊢ iprop((∀ a b, owing c (owedAt c (t.val + 1) t.val) ∗ credWaits (F := F) true (t.val + 1 - 7) c ∗ credWaits (F := F) false (t.val + 1 - 7) c -∗ Q ⟨a, b⟩)
          -∗ runs c (onBufs (k0_part1 (F := F)) 1#32 1#32 t) Q) := by
  have ht : t.val < 14 := lt_of_lt_of_eq t.isLt trips_eq
  rw [k0_part1_eq_skeleton]
  unfold onBufs k0_part1_skel
  by_cases h7 : 7 ≤ t.val
  · have hc := (cond1_iff t).2 h7
    simp only [hc, dite_true, semWaitWord, Prog.lift, Prog.bind_op, Prog.bind_ret, Prog.pure_eq_ret]
    rw [show t.val + 1 - 7 = t.val - 7 + 1 by omega]
    iintro ⟨#HK, HO, HR, HL⟩ Hk
    iapply (wp_cred_next X W K true c (t.val - 7) (t.val + 1) (t.val + 1) (min t.val 8) (min t.val 7) 0 (by show _ < 8; omega) (by omega) rfl) $$ [HO HR]
    · isplitr; · iexact HK
      isplitl [HO] <;> iassumption
    iintro ⟨HO, HR⟩
    iapply (wp_cred_next X W K false c (t.val - 7) (t.val + 1) (t.val + 1) (min t.val 8) (min t.val 7) 0 (by show _ < 7; omega) (by omega) rfl) $$ [HO HL]
    · isplitr; · iexact HK
      isplitl [HO] <;> iassumption
    iintro ⟨HO, HL⟩
    iapply runs_ret
    iapply Hk
    isplitl [HO]; · iexact HO
    isplitl [HR] <;> iassumption
  · have hc : ¬ _ := fun h => h7 ((cond1_iff t).1 h)
    simp only [hc, dite_false, semWaitWord, Prog.lift, Prog.bind_op, Prog.bind_ret, Prog.pure_eq_ret]
    rw [show t.val + 1 - 7 = t.val - 7 by omega]
    iintro ⟨#HK, HO, HR, HL⟩ Hk
    iapply runs_ret
    iapply Hk
    isplitl [HO]; · iexact HO
    isplitl [HR] <;> iassumption

theorem wp_part2 (c : Dev nD) (t : Fin k0_t1_loop.trips) (v2 v13 v25 a14 c8 : BitVec 32) {Q : (Σ' (_ : BitVec 32) (_ : BitVec 32), BitVec 1) → sProp 𝕄} :
    iprop(known X W K ∗ owing c (owedAt c (t.val + 1) t.val) ∗ ringIn X true t.val c ∗ ringIn X false t.val c)
      ⊢ iprop((∀ a b e, owing c (owedAt c (t.val + 2) t.val)
            ∗ (ringMid (F := F) true t.val c ∗ hopMid (F := F) true c (t.val + 1) ∗ holds c (slot true t.val) fullShare.right (X (origin true t.val c)))
            ∗ (ringMid (F := F) false t.val c ∗ hopMid (F := F) false c (t.val + 1) ∗ holds c (slot false t.val) fullShare.right (X (origin false t.val c))) -∗ Q ⟨a, b, e⟩)
          -∗ runs c (onBufs (k0_part2 (F := F)) c v2 v13 v25 t a14 c8) Q) := by
  have ht : t.val < 14 := lt_of_lt_of_eq t.isLt trips_eq
  rw [k0_part2_eq_skeleton]
  unfold onBufs k0_part2_skel
  simp only [Prog.lift, Prog.bind_op, Prog.bind_ret, Prog.pure_eq_ret]
  unfold ringIn
  iintro ⟨#HK, HO, ⟨Rt, Rp, Ro, Rx⟩, ⟨Lt, Lp, Lo, Lx⟩⟩ Hk
  ihave Rx' := (holds_halves c (slot true t.val) fullShare (X (origin true t.val c))).1 $$ Rx
  icases Rx' with ⟨Rx1, Rx2⟩
  ihave Lx' := (holds_halves c (slot false t.val) fullShare (X (origin false t.val c))).1 $$ Lx
  icases Lx' with ⟨Lx1, Lx2⟩
  ihave Ro' := (frees_cat true c (a := reach true (t.val + 1)) (b := reach true (t.val + 2)) (e := t.val + 8) (by unfold reach; omega) (by unfold reach hops; simp only [if_true]; omega)).1 $$ Ro
  icases Ro' with ⟨Ro1, Ro2⟩
  ihave Lo' := (frees_cat false c (a := reach false (t.val + 1)) (b := reach false (t.val + 2)) (e := t.val + 8) (by unfold reach; omega) (by unfold reach; omega)).1 $$ Lo
  icases Lo' with ⟨Lo1, Lo2⟩
  iapply (wp_hop X W K true c _ (t.val + 1) (reach true (t.val + 1)) (by show _ < 16; omega) (by unfold reach hops; simp only [if_true]; omega) (dev10_eq c)
    (owedAt c (t.val + 1) t.val) (owed c 7 (t.val + 2) (t.val + 1) (min t.val 8) (min t.val 7) 0) (owed_right c 7 _ _ _ _ (by omega))
    (slot_eq true t.val (off4_eq t) _) (slot_eq true (t.val + 1) (off3_eq t) _) (sem2_snd t) (sem2_rcv t)) $$ [HO Rt Rx1 Rp Lo1]
  · isplitr; · iexact HK
    isplitl [Rt]; · iexact Rt
    isplitl [Rx1]; · unfold sent; iexact Rx1
    isplitl [Rp]; · iexact Rp
    isplitl [Lo1]; · iexact Lo1
    iexact HO
  iintro ⟨Rt, Rm, Rp, HO⟩
  iapply (wp_hop X W K false c _ (t.val + 1) (reach false (t.val + 1)) (by show _ < 15; omega) (by unfold reach hops; simp only [Bool.false_eq_true, if_false]; omega) (dev11_eq c)
    (owed c 7 (t.val + 2) (t.val + 1) (min t.val 8) (min t.val 7) 0) (owedAt c (t.val + 2) t.val) (owed_left c 7 _ _ _ _ (by omega))
    (slot_eq false t.val (off4_eq t) _) (slot_eq false (t.val + 1) (off3_eq t) _) (sem5_snd t) (sem5_rcv t)) $$ [HO Lt Lx1 Lp Ro1]
  · isplitr; · iexact HK
    isplitl [Lt]; · iexact Lt
    isplitl [Lx1]; · unfold sent; iexact Lx1
    isplitl [Lp]; · iexact Lp
    isplitl [Ro1]; · iexact Ro1
    iexact HO
  iintro ⟨Lt, Lm, Lp, HO⟩
  iapply runs_ret
  iapply Hk
  isplitl [HO]; · iexact HO
  unfold ringMid
  isplitl [Rt Rp Ro2 Rm Rx2]
  · isplitl [Rt Rp Ro2]
    · isplitl [Rt]; · iexact Rt
      isplitl [Rp] <;> iassumption
    isplitl [Rm] <;> iassumption
  isplitl [Lt Lp Lo2]
  · isplitl [Lt]; · iexact Lt
    isplitl [Lp] <;> iassumption
  isplitl [Lm] <;> iassumption

theorem wp_part3 (c : Dev nD) (t : Fin k0_t1_loop.trips) (v2 : BitVec 32) (a : F .f32) (a14 v439 v440 : BitVec 32) (v441 : BitVec 1) (S : Dev nD → Prop)
    {Q : (Σ' (_ : F .f32) (_ : BitVec 32) (_ : BitVec 32) (_ : BitVec 1), BitVec 32) → sProp 𝕄} :
    iprop(holds c (slot true t.val) fullShare.right (X (origin true t.val c)) ∗ holds c wM fullShare (W c) ∗ rows X W c S)
      ⊢ iprop((∀ b1 b2 b3 b4, holds c (slot true t.val) fullShare.right (X (origin true t.val c)) ∗ holds c wM fullShare (W c)
              ∗ rows X W c (fun e => S e ∨ e = origin true t.val c)
              -∗ Q ⟨Scalar.maximumf a (blockMax (gemm (X (origin true t.val c)) (W c))), b1, b2, b3, b4⟩)
          -∗ runs c (onBufs (k0_part3 (F := F)) c v2 t a a14 v439 v440 v441) Q) := by
  rw [k0_part3_eq_skeleton]
  unfold onBufs k0_part3_skel
  simp only [Prog.lift, Prog.bind_op, Prog.bind_ret, Prog.pure_eq_ret]
  iintro ⟨Hx, Hw, Ho⟩ Hk
  iapply (wp_load_slot true c t.val fullShare.right (X (origin true t.val c)) rfl (off6_eq t)) $$ Hx
  iintro %v %hv Hx
  iapply (wp_load_w c fullShare (W c)) $$ Hw
  iintro Hw
  iapply (wp_load_rows X W c S) $$ Ho
  iintro %u Ho
  iapply (wp_store_rows X W c S (origin true t.val c) (off7_eq c t) (pay1_eq v (W c) _ hv)) $$ Ho
  iintro Ho
  iapply runs_ret
  rw [pay2_eq a v (W c) _ hv]
  iapply Hk
  isplitl [Hx]; · iexact Hx
  isplitl [Hw] <;> iassumption

theorem wp_part4 (c : Dev nD) (t : Fin k0_t1_loop.trips) (a14 : BitVec 32) (a : F .f32) (v476 v477 : BitVec 32) (v478 : BitVec 1) (c0 : BitVec 32) (S : Dev nD → Prop)
    {Q : F .f32 → sProp 𝕄} :
    iprop(holds c (slot false t.val) fullShare.right (X (origin false t.val c)) ∗ holds c wM fullShare (W c) ∗ rows X W c S)
      ⊢ iprop((holds c (slot false t.val) fullShare.right (X (origin false t.val c)) ∗ holds c wM fullShare (W c)
              ∗ rows X W c (fun e => S e ∨ e = origin false t.val c)
              -∗ Q (Scalar.maximumf a (blockMax (gemm (X (origin false t.val c)) (W c)))))
          -∗ runs c (onBufs (k0_part4 (F := F)) c t a14 a v476 v477 v478 c0) Q) := by
  rw [k0_part4_eq_skeleton]
  unfold onBufs k0_part4_skel
  simp only [Prog.lift, Prog.bind_op, Prog.bind_ret, Prog.pure_eq_ret]
  iintro ⟨Hx, Hw, Ho⟩ Hk
  iapply (wp_load_slot false c t.val fullShare.right (X (origin false t.val c)) rfl (off6_eq t)) $$ Hx
  iintro %v %hv Hx
  iapply (wp_load_w c fullShare (W c)) $$ Hw
  iintro Hw
  iapply (wp_load_rows X W c S) $$ Ho
  iintro %u Ho
  iapply (wp_store_rows X W c S (origin false t.val c) (off8_eq c t) (pay3_eq v (W c) _ hv)) $$ Ho
  iintro Ho
  iapply runs_ret
  rw [pay4_eq a v (W c) _ hv]
  iapply Hk
  isplitl [Hx]; · iexact Hx
  isplitl [Hw] <;> iassumption

/-- The devices whose rows of the product are stored once `t` trips are over. -/
def Seen (c : Dev nD) (t : ℕ) (e : Dev nD) : Prop := e = c ∨ ∃ j < t, e = origin true j c ∨ e = origin false j c

theorem seen_succ (c : Dev nD) (t : ℕ) (e : Dev nD) (h : Seen c (t + 1) e) : (Seen c t e ∨ e = origin true t c) ∨ e = origin false t c := by
  rcases h with h | ⟨j, hj, h⟩
  · exact .inl (.inl (.inl h))
  · rcases Nat.lt_succ_iff_lt_or_eq.1 hj with hj | rfl
    · exact .inl (.inl (.inr ⟨j, hj, h⟩))
    · rcases h with h | h
      · exact .inl (.inr h)
      · exact .inr h

/-- Before trip `t`. -/
def trip (c : Dev nD) (t : ℕ) (a : F .f32) : sProp 𝕄 :=
  iprop(⌜a = acc X W c t⌝ ∗ known X W K ∗ owing c (owedAt c (t + 1) t)
    ∗ (ringIn X true t c ∗ hopDone (F := F) true c (t + 1) ∗ credWaits (F := F) true (t - 7) c ∗ credGives (F := F) true (min t 8) c)
    ∗ (ringIn X false t c ∗ hopDone (F := F) false c (t + 1) ∗ credWaits (F := F) false (t - 7) c ∗ credGives (F := F) false (min t 7) c)
    ∗ holds c wM fullShare (W c) ∗ rows X W c (Seen c t))

theorem trip_next (c : Dev nD) (v2 v13 v25 : BitVec 32) (a₀ : F .f32) (t : Fin k0_t1_loop.trips) (a : F .f32) :
    trip X W K c t.val a ⊢ runs c (onBufs (k0_t1_body (F := F)) c v2 v13 v25 a₀ t a) (trip X W K c (t.val + 1)) := by
  have ht : t.val < 14 := lt_of_lt_of_eq t.isLt trips_eq
  unfold onBufs k0_t1_body
  simp only [semSignalWord, Prog.lift, Prog.bind_op, Prog.bind_ret, Prog.pure_eq_ret]
  unfold trip
  iintro ⟨%ha, #HK, HO, ⟨Ri, Rd, Rw, Rg⟩, ⟨Li, Ld, Lw, Lg⟩, Hw, Hr⟩
  subst ha
  iapply runs_bind
  iapply (wp_part1 X W K c t) $$ [HO Rw Lw]
  · isplitr; · iexact HK
    isplitl [HO]; · iexact HO
    isplitl [Rw] <;> iassumption
  iintro %a14 %c8 ⟨HO, Rw, Lw⟩
  dsimp only
  iapply runs_bind
  iapply (wp_part2 X W K c t v2 v13 v25 a14 c8) $$ [HO Ri Li]
  · isplitr; · iexact HK
    isplitl [HO]; · iexact HO
    isplitl [Ri] <;> iassumption
  iintro %b1 %b2 %b3 ⟨HO, ⟨Ri, Rh, Rx⟩, ⟨Li, Lh, Lx⟩⟩
  dsimp only
  iapply runs_bind
  iapply (wp_part3 X W c t v2 _ a14 b1 b2 b3 (Seen c t.val)) $$ [Rx Hw Hr]
  · isplitl [Rx]; · iexact Rx
    isplitl [Hw] <;> iassumption
  iintro %b4 %b5 %b6 %b7 ⟨Rx, Hw, Hr⟩
  dsimp only
  iapply runs_bind
  iapply (wp_part4 X W c t a14 _ b4 b5 b6 b7 _) $$ [Lx Hw Hr]
  · isplitl [Lx]; · iexact Lx
    isplitl [Hw] <;> iassumption
  iintro ⟨Lx, Hw, Hr⟩
  unfold hopMid
  icases Rh with ⟨⟨Rsc, Rsa⟩, ⟨Rrc, Rra⟩⟩
  icases Lh with ⟨⟨Lsc, Lsa⟩, ⟨Lrc, Lra⟩⟩
  iapply (wp_snd_wait X W K true c (t.val + 1) (t.val + 2) (t.val + 2) (min t.val 8) (min t.val 7) 0 (by show _ < 16; omega) (sem2_snd t) (credit_at true _)) $$ [HO Rsc Rsa]
  · isplitr; · iexact HK
    isplitl [HO]; · iexact HO
    isplitl [Rsc] <;> iassumption
  iintro ⟨HO, Rs, Rsp⟩
  iapply (wp_rcv_wait X W K true c (t.val + 1) (t.val + 2) (t.val + 2) (min t.val 8) (min t.val 7) 0 (by show _ < 16; omega) (by omega) (sem2_rcv t) (credit_at true _)) $$ [HO Rrc Rra]
  · isplitr; · iexact HK
    isplitl [HO]; · iexact HO
    isplitl [Rrc] <;> iassumption
  iintro ⟨HO, Rr, Rrp⟩
  iapply (wp_snd_wait X W K false c (t.val + 1) (t.val + 2) (t.val + 2) (min t.val 8) (min t.val 7) 0 (by show _ < 15; omega) (sem5_snd t) (credit_at false _)) $$ [HO Lsc Lsa]
  · isplitr; · iexact HK
    isplitl [HO]; · iexact HO
    isplitl [Lsc] <;> iassumption
  iintro ⟨HO, Ls, Lsp⟩
  iapply (wp_rcv_wait X W K false c (t.val + 1) (t.val + 2) (t.val + 2) (min t.val 8) (min t.val 7) 0 (by show _ < 15; omega) (by omega) (sem5_rcv t) (credit_at false _)) $$ [HO Lrc Lra]
  · isplitr; · iexact HK
    isplitl [HO]; · iexact HO
    isplitl [Lrc] <;> iassumption
  iintro ⟨HO, Lr, Lrp⟩
  iapply (wp_give_left X W K c t) $$ [HO Rg]
  · isplitr; · iexact HK
    isplitl [HO] <;> iassumption
  iintro ⟨HO, Rg⟩
  iapply (wp_give_right X W K c t) $$ [HO Lg]
  · isplitr; · iexact HK
    isplitl [HO] <;> iassumption
  iintro ⟨HO, Lg⟩
  iapply runs_ret
  unfold arrives
  icases Rrp with ⟨Rn, Lf⟩
  icases Lrp with ⟨Ln, Rf⟩
  isplitr; · ipureintro; rfl
  isplitr; · iexact HK
  isplitl [HO]; · iexact HO
  isplitl [Ri Rx Rsp Rn Rf Rd Rs Rr Rw Rg]
  · isplitl [Ri Rx Rsp Rn Rf]
    · iapply (ring_next X true t.val c (by show _ ≤ 16; omega))
      isplitl [Ri]; · iexact Ri
      isplitl [Rsp]; · iexact Rsp
      isplitl [Rx]; · iexact Rx
      isplitl [Rn]; · iexact Rn
      iexact Rf
    isplitl [Rd Rs Rr]
    · iapply (hopDone_succ true c (t.val + 1))
      isplitl [Rd]; · iexact Rd
      isplitl [Rs] <;> iassumption
    isplitl [Rw] <;> iassumption
  isplitl [Li Lx Lsp Ln Lf Ld Ls Lr Lw Lg]
  · isplitl [Li Lx Lsp Ln Lf]
    · iapply (ring_next X false t.val c (by show _ ≤ 15; omega))
      isplitl [Li]; · iexact Li
      isplitl [Lsp]; · iexact Lsp
      isplitl [Lx]; · iexact Lx
      isplitl [Ln]; · iexact Ln
      iexact Lf
    isplitl [Ld Ls Lr]
    · iapply (hopDone_succ false c (t.val + 1))
      isplitl [Ld]; · iexact Ld
      isplitl [Ls] <;> iassumption
    isplitl [Lw] <;> iassumption
  isplitl [Hw]; · iexact Hw
  iapply (rows_mono X W c (seen_succ c t.val)) $$ Hr

end Loop

end Cert.RingProof

end
-- ==== Proof.Prologue.lean ====
/-
# The kernel up to the last hop

The entry barrier, the first hop of both rings with the device's own product in between, the loop, and the start of the
sixteenth hop of the ring to the right.
-/
module

public import proofs.«01_k».proof.Proof.Loop

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Prologue

variable (X : Dev nD → Vec F S128x4096 .f32) (W : Dev nD → Vec F S4096x256 .f32) (K : Dev nD × CI → ℕ)

theorem frees_nil (d : Bool) (a : ℕ) (c : Dev nD) : iprop(emp) ⊢ (frees (F := F) d a a c : sProp 𝕄) := by
  unfold frees
  rw [Finset.Ico_self, bigSep_empty]; exact .rfl
theorem hopDone_nil (d : Bool) (c : Dev nD) : iprop(emp) ⊢ (hopDone (F := F) d c 0 : sProp 𝕄) := by
  unfold hopDone
  rw [Finset.Ico_self, bigSep_empty]; exact .rfl

/-! ## The barrier -/

/-- What the barrier units from `b` on carry. -/
def barTodo (c : Dev nD) (b : ℕ) : sProp 𝕄 :=
  bigSep (Finset.Ico b 7) fun i => iprop(dutyTok ER (barC (barTo i c)) 0 i ∗ entered (F := F) (barTo i c) i)
/-- The partners' slots of the exchange rounds from `r` on. -/
def palSlots (c : Dev nD) (r : ℕ) : sProp 𝕄 := bigSep (Finset.Ico (r + 2) 7) fun i => entered (F := F) c i

theorem wp_bar_next (c n : Dev nD) (i : ℕ) (hi : i < 7) (hn : n = barTo i c) {s : Sem sig} (hs : s = barS) {α : Type} {Q : α → sProp 𝕄}
    {k : PUnit → Prog (TpuEff nD τ sig (Elt F) Λ₀ .tc) α} :
    iprop(known X W K ∗ owing c (owed c i 0 0 0 0 0) ∗ barTodo (F := F) c i)
      ⊢ iprop((owing c (owed c (i + 1) 0 0 0 0 0) ∗ barTodo (F := F) c (i + 1) -∗ runs c (k ⟨⟩) Q)
          -∗ runs c (.op (.semSignal (n : Thread nD τ) s (1#32 : BitVec 32).toInt) k) Q) := by
  subst hs
  unfold barTodo
  iintro ⟨#HK, HO, Hb⟩ Hk
  ihave Hb' := (ico_bot hi).1 $$ Hb
  icases Hb' with ⟨⟨Ht, Hp⟩, Hb⟩
  iapply (wp_bar_signal X W K c n i 0 0 0 0 0 hi hn) $$ [HO Ht Hp]
  · isplitr; · iexact HK
    isplitl [HO]; · iexact HO
    isplitl [Ht] <;> iassumption
  iintro HO
  iapply Hk
  isplitl [HO] <;> iassumption

theorem wp_part6 (c : Dev nD) (v13 v27 v28 v29 v30 v31 : BitVec 32) {Q : BitVec 32 → sProp 𝕄} :
    iprop(known X W K ∗ owing c (owed c 0 0 0 0 0 0) ∗ barTodo (F := F) c 0 ∗ cred (tallyAt (barC c) 0 7) ∗ atPos ER (barC c) 0 ∅ 0
        ∗ hopTodo (F := F) true c 0 ∗ sent X true c 0)
      ⊢ iprop((∀ a, owing c (owed c 7 1 0 0 0 0) ∗ semVal (barC c) 0 ∗ hopTodo (F := F) true c 1 ∗ hopMid (F := F) true c 0
            ∗ frees (F := F) true 1 8 (nxt true c) ∗ frees (F := F) false 0 8 (nxt false c) ∗ palSlots (F := F) c 0 -∗ Q a)
          -∗ runs c (onBufs (k0_part6 (F := F)) c v13 (SemArray.scalar (sig.barrier 0 rfl)) v27 v28 v29 v30 v31) Q) := by
  rw [k0_part6_eq_skeleton]
  unfold onBufs k0_part6_skel
  simp only [semSignalWord, semWaitWord, Prog.lift, Prog.bind_op, Prog.bind_ret, Prog.pure_eq_ret]
  iintro ⟨#HK, HO, Hb, Hc, Ha, Rt, Rs⟩ Hk
  iapply (wp_bar_next X W K c _ 0 (by omega) (dev1_eq c) rfl) $$ [HO Hb]
  · isplitr; · iexact HK
    isplitl [HO] <;> iassumption
  iintro ⟨HO, Hb⟩
  iapply (wp_bar_next X W K c _ 1 (by omega) (dev2_eq c) rfl) $$ [HO Hb]
  · isplitr; · iexact HK
    isplitl [HO] <;> iassumption
  iintro ⟨HO, Hb⟩
  iapply (wp_bar_next X W K c _ 2 (by omega) (dev3_eq c) rfl) $$ [HO Hb]
  · isplitr; · iexact HK
    isplitl [HO] <;> iassumption
  iintro ⟨HO, Hb⟩
  iapply (wp_bar_next X W K c _ 3 (by omega) (dev4_eq c) rfl) $$ [HO Hb]
  · isplitr; · iexact HK
    isplitl [HO] <;> iassumption
  iintro ⟨HO, Hb⟩
  iapply (wp_bar_next X W K c _ 4 (by omega) (dev5_eq c) rfl) $$ [HO Hb]
  · isplitr; · iexact HK
    isplitl [HO] <;> iassumption
  iintro ⟨HO, Hb⟩
  iapply (wp_bar_next X W K c _ 5 (by omega) (dev6_eq c) rfl) $$ [HO Hb]
  · isplitr; · iexact HK
    isplitl [HO] <;> iassumption
  iintro ⟨HO, Hb⟩
  iapply (wp_bar_next X W K c _ 6 (by omega) (dev7_eq c) rfl) $$ [HO Hb]
  · isplitr; · iexact HK
    isplitl [HO] <;> iassumption
  iintro ⟨HO, Hb⟩
  iapply (wp_bar_wait X W K c) $$ [HO Hc Ha]
  · isplitr; · iexact HK
    isplitl [HO]; · iexact HO
    isplitl [Hc] <;> iassumption
  iintro ⟨HO, Hv, He⟩
  rw [Finset.range_eq_Ico]
  ihave He' := (ico_bot (a := 0) (b := 7) (by omega)).1 $$ He
  icases He' with ⟨He0, He⟩
  ihave He' := (ico_bot (a := 1) (b := 7) (by omega)).1 $$ He
  icases He' with ⟨He1, He⟩
  iapply (wp_hop X W K true c _ 0 8 (by show _ < 16; omega) (by omega) (dev8_eq c)
    (owed c 7 0 0 0 0 0) (owed c 7 1 0 0 0 0) (owed_right c 7 _ _ _ _ (by omega)) rfl rfl rfl rfl) $$ [HO Rt Rs He0]
  · isplitr; · iexact HK
    isplitl [Rt]; · iexact Rt
    isplitl [Rs]; · iexact Rs
    isplitl [He0]; · unfold entered; iexact He0
    isplitr; · iapply (frees_nil false 8 c); iempintro
    iexact HO
  iintro ⟨Rt, Rm, Rp, HO⟩
  iapply runs_ret
  iapply Hk
  isplitl [HO]; · iexact HO
  isplitl [Hv]; · iexact Hv
  isplitl [Rt]; · iexact Rt
  isplitl [Rm]; · iexact Rm
  isplitl [Rp]; · iexact Rp
  isplitl [He1]; · unfold entered; iexact He1
  unfold palSlots; iexact He

/-! ## The first hop -/

theorem wp_part7 (c : Dev nD) (v2 v13 v25 c1 : BitVec 32) {Q : F .f32 → sProp 𝕄} :
    iprop(known X W K ∗ owing c (owed c 7 1 0 0 0 0) ∗ hopMid (F := F) true c 0
        ∗ hopTodo (F := F) false c 0 ∗ sent X false c 0 ∗ frees (F := F) false 0 8 (nxt false c)
        ∗ holds c xM fullShare.right (X c) ∗ holds c wM fullShare (W c) ∗ rows X W c (fun _ => False))
      ⊢ iprop((owing c (owed c 7 1 1 0 0 0) ∗ (semVal (sndC true 0 c) 0 ∗ semVal (rcvC true 0 c) 0) ∗ sent X true c 0 ∗ arrives X true 0 c
            ∗ hopTodo (F := F) false c 1 ∗ hopMid (F := F) false c 0 ∗ frees (F := F) false 1 8 (nxt false c)
            ∗ holds c xM fullShare.right (X c) ∗ holds c wM fullShare (W c) ∗ rows X W c (fun e => False ∨ e = c) -∗ Q (acc X W c 0))
          -∗ runs c (onBufs (k0_part7 (F := F)) c v2 v13 v25 c1) Q) := by
  rw [k0_part7_eq_skeleton]
  unfold onBufs k0_part7_skel
  simp only [Prog.lift, Prog.bind_op, Prog.bind_ret, Prog.pure_eq_ret]
  unfold hopMid
  iintro ⟨#HK, HO, ⟨⟨Hsc, Hsa⟩, ⟨Hrc, Hra⟩⟩, Lt, Ls, Lp, Hx, Hw, Hr⟩ Hk
  iapply (wp_hop X W K false c _ 0 8 (by show _ < 15; omega) (by omega) (dev9_eq c)
    (owed c 7 1 0 0 0 0) (owed c 7 1 1 0 0 0) (owed_left c 7 _ _ _ _ (by omega)) rfl rfl rfl rfl) $$ [HO Lt Ls Lp]
  · isplitr; · iexact HK
    isplitl [Lt]; · iexact Lt
    isplitl [Ls]; · iexact Ls
    isplitl [Lp]; · iexact Lp
    isplitr; · iapply (frees_nil true 8 c); iempintro
    iexact HO
  iintro ⟨Lt, Lm, Lp, HO⟩
  iapply (wp_load_x c fullShare.right (X c)) $$ Hx
  iintro Hx
  iapply (wp_load_w c fullShare (W c)) $$ Hw
  iintro Hw
  iapply (wp_load_rows X W c _) $$ Hr
  iintro %u Hr
  iapply (wp_store_rows X W c (fun _ => False) c (off1_eq c) (pay5_eq (X c) (W c))) $$ Hr
  iintro Hr
  iapply (wp_snd_wait X W K true c 0 1 1 0 0 0 (by show _ < 16; omega) rfl credit_x) $$ [HO Hsc Hsa]
  · isplitr; · iexact HK
    isplitl [HO]; · iexact HO
    isplitl [Hsc] <;> iassumption
  iintro ⟨HO, Hs, Hsp⟩
  iapply (wp_rcv_wait X W K true c 0 1 1 0 0 0 (by show _ < 16; omega) (by omega) rfl (credit_at true _)) $$ [HO Hrc Hra]
  · isplitr; · iexact HK
    isplitl [HO]; · iexact HO
    isplitl [Hrc] <;> iassumption
  iintro ⟨HO, Hrv, Hrp⟩
  iapply runs_ret
  rw [show k0_pay6 (X c) (W c) = acc X W c 0 from pay6_eq _ _]
  iapply Hk
  isplitl [HO]; · iexact HO
  isplitl [Hs Hrv]; · isplitl [Hs] <;> iassumption
  isplitl [Hsp]; · iexact Hsp
  isplitl [Hrp]; · iexact Hrp
  isplitl [Lt]; · iexact Lt
  isplitl [Lm]; · unfold hopMid; iexact Lm
  isplitl [Lp]; · iexact Lp
  isplitl [Hx]; · iexact Hx
  isplitl [Hw] <;> iassumption

/-- A ring after its first hop. -/
theorem ring_first (d : Bool) (c : Dev nD) :
    iprop(hopTodo (F := F) d c 1 ∗ frees (F := F) d 1 8 (nxt d c) ∗ holds c (slot d 0) fullShare (X (origin d 0 c))) ⊢ ringIn X d 0 c := by
  have h1 : reach d 1 = 8 := by cases d <;> rfl
  unfold ringIn
  rw [h1]
  iintro ⟨Ht, Hp, Hx⟩
  isplitl [Ht]; · iexact Ht
  isplitl [Hp]; · iexact Hp
  isplitr; · iapply (frees_nil d 8 c); iempintro
  iexact Hx

/-! ## The loop -/

theorem wp_loop (c : Dev nD) (v2 v13 v25 : BitVec 32) (a₀ : F .f32) {β : Type} {Q : β → sProp 𝕄} {kk : F .f32 → Prog (TpuEff nD τ sig (Elt F) Λ₀ .tc) β} :
    trip X W K c 0 a₀ ⊢ iprop((∀ a, trip X W K c 14 a -∗ runs c (kk a) Q)
      -∗ runs c (Scf.Loop.for k0_t1_loop k0_t1_ok a₀ (onBufs (k0_t1_body (F := F)) c v2 v13 v25 a₀) >>= kk) Q) := by
  have h := Scf.wp_for_bind frame (wpE (defs₀ (F := F)) 𝒱₀ (c : Thread nD τ) none) Set.univ _ _ _ k0_t1_ok a₀
    (onBufs (k0_t1_body (F := F)) c v2 v13 v25 a₀) (fun t a => trip X W K c t a) (fun t a => trip_next X W K c v2 v13 v25 a₀ t a) (kk := kk) (Q := Q)
  have ht : Scf.trips k0_t1_loop.lb k0_t1_loop.ub k0_t1_loop.st = 14 := trips_eq
  rw [ht] at h
  exact h

theorem wp_part8 (c : Dev nD) (v2 v13 v25 : BitVec 32) {Q : (Σ' (_ : F .f32) (_ : BitVec 32) (_ : BitVec 32), BitVec 32) → sProp 𝕄} :
    iprop(known X W K ∗ owing c (owed c 7 1 1 0 0 0)
        ∗ (hopTodo (F := F) true c 1 ∗ frees (F := F) true 1 8 (nxt true c) ∗ (semVal (sndC true 0 c) 0 ∗ semVal (rcvC true 0 c) 0) ∗ arrives X true 0 c)
        ∗ (hopTodo (F := F) false c 1 ∗ frees (F := F) false 1 8 (nxt false c) ∗ hopMid (F := F) false c 0)
        ∗ (credWaits (F := F) true 0 c ∗ credGives (F := F) true 0 c) ∗ (credWaits (F := F) false 0 c ∗ credGives (F := F) false 0 c)
        ∗ holds c wM fullShare (W c) ∗ rows X W c (fun e => False ∨ e = c))
      ⊢ iprop((∀ b1 b2 b3, owing c (owed c 7 16 15 8 7 0) ∗ sent X false c 0
            ∗ (hopMid (F := F) true c 15 ∗ frees (F := F) true 16 22 c ∗ holds c (slot true 14) fullShare.right (X (origin true 14 c)) ∗ hopDone (F := F) true c 15
              ∗ credWaits (F := F) true 8 c)
            ∗ (frees (F := F) false 15 22 c ∗ holds c (slot false 14) fullShare (X (origin false 14 c)) ∗ hopDone (F := F) false c 15 ∗ credWaits (F := F) false 7 c)
            ∗ holds c wM fullShare (W c) ∗ rows X W c (Seen c 14) -∗ Q ⟨acc X W c 14, b1, b2, b3⟩)
          -∗ runs c (onBufs (k0_part8 (F := F)) c v2 v13 v25 (acc X W c 0)) Q) := by
  rw [k0_part8_eq_skeleton]
  unfold onBufs k0_part8_skel
  simp only [semSignalWord, semWaitWord, Prog.lift, Prog.bind_op, Prog.bind_ret, Prog.pure_eq_ret]
  unfold hopMid
  iintro ⟨#HK, HO, ⟨Rt, Rp, Rv, Ra⟩, ⟨Lt, Lp, ⟨⟨Hsc, Hsa⟩, ⟨Hrc, Hra⟩⟩⟩, ⟨Rw, Rg⟩, ⟨Lw, Lg⟩, Hw, Hr⟩ Hk
  iapply (wp_snd_wait X W K false c 0 1 1 0 0 0 (by show _ < 15; omega) rfl credit_x) $$ [HO Hsc Hsa]
  · isplitr; · iexact HK
    isplitl [HO]; · iexact HO
    isplitl [Hsc] <;> iassumption
  iintro ⟨HO, Hs, Hsp⟩
  iapply (wp_rcv_wait X W K false c 0 1 1 0 0 0 (by show _ < 15; omega) (by omega) rfl (credit_at false _)) $$ [HO Hrc Hra]
  · isplitr; · iexact HK
    isplitl [HO]; · iexact HO
    isplitl [Hrc] <;> iassumption
  iintro ⟨HO, Hrv, La⟩
  unfold arrives
  icases Ra with ⟨Rx, -⟩
  icases La with ⟨Lx, -⟩
  iapply (wp_loop X W K c v2 v13 v25 (acc X W c 0)) $$ [HO Rt Rp Rv Rx Lt Lp Hs Hrv Lx Rw Rg Lw Lg Hw Hr]
  · unfold trip
    isplitr; · ipureintro; rfl
    isplitr; · iexact HK
    isplitl [HO]; · iexact HO
    isplitl [Rt Rp Rv Rx Rw Rg]
    · isplitl [Rt Rp Rx]
      · iapply (ring_first X true c)
        isplitl [Rt]; · iexact Rt
        isplitl [Rp] <;> iassumption
      isplitl [Rv]
      · iapply (hopDone_succ true c 0)
        isplitr; · iapply (hopDone_nil true c); iempintro
        iexact Rv
      isplitl [Rw]; · iexact Rw
      iexact Rg
    isplitl [Lt Lp Hs Hrv Lx Lw Lg]
    · isplitl [Lt Lp Lx]
      · iapply (ring_first X false c)
        isplitl [Lt]; · iexact Lt
        isplitl [Lp] <;> iassumption
      isplitl [Hs Hrv]
      · iapply (hopDone_succ false c 0)
        isplitr; · iapply (hopDone_nil false c); iempintro
        isplitl [Hs] <;> iassumption
      isplitl [Lw]; · iexact Lw
      iexact Lg
    isplitl [Hw]; · iexact Hw
    iapply (rows_mono X W c (fun e (he : Seen c 0 e) => he.elim Or.inr (fun ⟨_, h, _⟩ => absurd h (Nat.not_lt_zero _)))) $$ Hr
  iintro %a H
  unfold trip ringIn
  icases H with ⟨%ha, -, HO, ⟨⟨Rt, Rp, Ro, Rx⟩, Rd, Rw, -⟩, ⟨⟨-, -, Lo, Lx⟩, Ld, Lw, -⟩, Hw, Hr⟩
  subst ha
  iapply (wp_cred_next X W K true c 7 15 15 8 7 0 (by show _ < 8; omega) (by omega) rfl) $$ [HO Rw]
  · isplitr; · iexact HK
    isplitl [HO]; · iexact HO
    iexact Rw
  iintro ⟨HO, Rw⟩
  ihave Rx' := (holds_halves c (slot true 14) fullShare (X (origin true 14 c))).1 $$ Rx
  icases Rx' with ⟨Rx1, Rx2⟩
  iapply (wp_hop X W K true c _ 15 16 (by show _ < 16; omega) (by omega) (dev14_eq c)
    (owed c 7 15 15 8 7 0) (owed c 7 16 15 8 7 0) (owed_right c 7 _ _ _ _ (by omega)) rfl rfl sem15_snd sem15_rcv) $$ [HO Rt Rx1 Rp]
  · isplitr; · iexact HK
    isplitl [Rt]; · iexact Rt
    isplitl [Rx1]; · unfold sent; iexact Rx1
    isplitl [Rp]; · iexact Rp
    isplitr; · iapply (frees_nil false 15 c); iempintro
    iexact HO
  iintro ⟨-, Rm, -, HO⟩
  iapply runs_ret
  iapply Hk
  isplitl [HO]; · iexact HO
  isplitl [Hsp]; · iexact Hsp
  isplitl [Rm Ro Rx2 Rd Rw]
  · isplitl [Rm]; · unfold hopMid; iexact Rm
    isplitl [Ro]; · iexact Ro
    isplitl [Rx2]; · iexact Rx2
    isplitl [Rd] <;> iassumption
  isplitl [Lo Lx Ld Lw]
  · isplitl [Lo]; · iexact Lo
    isplitl [Lx]; · iexact Lx
    isplitl [Ld] <;> iassumption
  isplitl [Hw] <;> iassumption

end Prologue

end Cert.RingProof

end
-- ==== Proof.Tail.lean ====
/-
# The last products

The blocks of the loop's last hop and of the ring to the right's sixteenth hop: with them all rows of the product are
stored, and the device's own maximum is written for the exchange.
-/
module

public import proofs.«01_k».proof.Proof.Prologue

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Tail

variable (X : Dev nD → Vec F S128x4096 .f32) (W : Dev nD → Vec F S4096x256 .f32) (K : Dev nD × CI → ℕ)

theorem wp_part9 (c : Dev nD) (v2 : BitVec 32) (a : F .f32) (v108 c32 c0 : BitVec 32) (q q' : PosShare TreeShare) (S : Dev nD → Prop)
    {Q : (Σ' (_ : F .f32) (_ : BitVec 32), Vec F S1x128x4096 .f32) → sProp 𝕄} :
    iprop(holds c (slot true 14) q (X (origin true 14 c)) ∗ holds c (slot false 14) q' (X (origin false 14 c)) ∗ holds c wM fullShare (W c) ∗ rows X W c S)
      ⊢ iprop((∀ b (v : Vec F S1x128x4096 .f32), ⌜shapeCast S128x4096 v shapeCasts_S1x128x4096_S128x4096 = X (origin false 14 c)⌝
              -∗ holds c (slot true 14) q (X (origin true 14 c)) ∗ holds c (slot false 14) q' (X (origin false 14 c)) ∗ holds c wM fullShare (W c)
              ∗ rows X W c (fun e => S e ∨ e = origin true 14 c)
              -∗ Q ⟨Scalar.maximumf a (blockMax (gemm (X (origin true 14 c)) (W c))), b, v⟩)
          -∗ runs c (onBufs (k0_part9 (F := F)) c v2 a v108 c32 c0) Q) := by
  rw [k0_part9_eq_skeleton]
  unfold onBufs k0_part9_skel
  simp only [Prog.lift, Prog.bind_op, Prog.bind_ret, Prog.pure_eq_ret]
  iintro ⟨Hx, Hy, Hw, Ho⟩ Hk
  iapply (wp_load_slot true c 14 q (X (origin true 14 c)) rfl rfl) $$ Hx
  iintro %v %hv Hx
  iapply (wp_load_w c fullShare (W c)) $$ Hw
  iintro Hw
  iapply (wp_load_rows X W c S) $$ Ho
  iintro %u Ho
  iapply (wp_store_rows X W c S (origin true 14 c) (off9_15_eq c) (pay7_eq v (W c) _ hv)) $$ Ho
  iintro Ho
  iapply (wp_load_slot false c 14 q' (X (origin false 14 c)) rfl rfl) $$ Hy
  iintro %v' %hv' Hy
  iapply runs_ret
  rw [pay8_eq a v (W c) _ hv]
  iapply Hk $$ %_ %v' %hv'
  isplitl [Hx]; · iexact Hx
  isplitl [Hy]; · iexact Hy
  isplitl [Hw] <;> iassumption

theorem wp_part10 (c : Dev nD) (v2 v13 : BitVec 32) (a : F .f32) (v143 : BitVec 32) (v : Vec F S1x128x4096 .f32)
    (hv : shapeCast S128x4096 v shapeCasts_S1x128x4096_S128x4096 = X (origin false 14 c)) (S : Dev nD → Prop)
    {Q : (Σ' (_ : F .f32) (_ : BitVec 32), BitVec 32) → sProp 𝕄} :
    iprop(known X W K ∗ owing c (owed c 7 16 15 8 7 0) ∗ hopMid (F := F) true c 15 ∗ holds c wM fullShare (W c) ∗ rows X W c S)
      ⊢ iprop((∀ b1 b2, owing c (owed c 7 16 15 8 7 0) ∗ (semVal (sndC true 15 c) 0 ∗ semVal (rcvC true 15 c) 0)
              ∗ holds c (slot true 14) fullShare.left (X (origin true 14 c)) ∗ holds c (slot true 15) fullShare (X (origin true 15 c))
              ∗ holds c wM fullShare (W c) ∗ rows X W c (fun e => S e ∨ e = origin false 14 c)
              -∗ Q ⟨Scalar.maximumf a (blockMax (gemm (X (origin false 14 c)) (W c))), b1, b2⟩)
          -∗ runs c (onBufs (k0_part10 (F := F)) c v2 v13 a v143 v) Q) := by
  rw [k0_part10_eq_skeleton]
  unfold onBufs k0_part10_skel
  simp only [Prog.lift, Prog.bind_op, Prog.bind_ret, Prog.pure_eq_ret]
  unfold hopMid
  iintro ⟨#HK, HO, ⟨⟨Hsc, Hsa⟩, ⟨Hrc, Hra⟩⟩, Hw, Ho⟩ Hk
  iapply (wp_load_w c fullShare (W c)) $$ Hw
  iintro Hw
  iapply (wp_load_rows X W c S) $$ Ho
  iintro %u Ho
  iapply (wp_store_rows X W c S (origin false 14 c) (off10_eq c) (pay9_eq v (W c) _ hv)) $$ Ho
  iintro Ho
  iapply (wp_snd_wait X W K true c 15 16 15 8 7 0 (by show _ < 16; omega) sem15_snd (credit_at true _)) $$ [HO Hsc Hsa]
  · isplitr; · iexact HK
    isplitl [HO]; · iexact HO
    isplitl [Hsc] <;> iassumption
  iintro ⟨HO, Hs, Hsp⟩
  iapply (wp_rcv_wait X W K true c 15 16 15 8 7 0 (by show _ < 16; omega) (by omega) sem15_rcv (credit_at true _)) $$ [HO Hrc Hra]
  · isplitr; · iexact HK
    isplitl [HO]; · iexact HO
    isplitl [Hrc] <;> iassumption
  iintro ⟨HO, Hr, Hrp⟩
  unfold arrives
  icases Hrp with ⟨Hrp, -⟩
  iapply runs_ret
  rw [pay10_eq a v (W c) _ hv]
  iapply Hk
  isplitl [HO]; · iexact HO
  isplitl [Hs Hr]; · isplitl [Hs] <;> iassumption
  isplitl [Hsp]; · unfold sent; iexact Hsp
  isplitl [Hrp]; · iexact Hrp
  isplitl [Hw] <;> iassumption

theorem wp_part11 (c : Dev nD) (v2 v173 c32 : BitVec 32) (S : Dev nD → Prop)
    {Q : (Σ' (_ : F .f32), BitVec 32) → sProp 𝕄} :
    iprop(holds c (slot true 15) fullShare (X (origin true 15 c)) ∗ holds c wM fullShare (W c) ∗ rows X W c S ∗ free (F := F) c (aslot 0))
      ⊢ iprop((∀ b, holds c (slot true 15) fullShare (X (origin true 15 c)) ∗ holds c wM fullShare (W c) ∗ rows X W c (fun e => S e ∨ e = origin true 15 c)
              ∗ holds c (aslot 0) fullShare (fun _ => top X W 0 c) -∗ Q ⟨top X W 0 c, b⟩)
          -∗ runs c (onBufs (k0_part11 (F := F)) c v2 (acc X W c 15) v173 c32) Q) := by
  rw [k0_part11_eq_skeleton]
  unfold onBufs k0_part11_skel
  simp only [Prog.lift, Prog.bind_op, Prog.bind_ret, Prog.pure_eq_ret]
  unfold free
  iintro ⟨Hx, Hw, Ho, ⟨%y, Hm⟩⟩ Hk
  iapply (wp_load_slot true c 15 fullShare (X (origin true 15 c)) rfl rfl) $$ Hx
  iintro %v %hv Hx
  iapply (wp_load_w c fullShare (W c)) $$ Hw
  iintro Hw
  iapply (wp_load_rows X W c S) $$ Ho
  iintro %u Ho
  iapply (wp_store_rows X W c S (origin true 15 c) (off9_16_eq c) (pay11_eq v (W c) _ hv)) $$ Ho
  iintro Ho
  iapply (wp_load_mine c y) $$ Hm
  iintro %z Hm
  have he : k0_pay12 (acc X W c 15) v (W c) = top X W 0 c := pay12_eq (acc X W c 15) v (W c) _ hv
  iapply (wp_store_mine c y (top X W 0 c) (by rw [pay13_eq, he])) $$ Hm
  iintro Hm
  iapply runs_ret
  rw [he]
  iapply Hk
  isplitl [Hx]; · iexact Hx
  isplitl [Hw]; · iexact Hw
  isplitl [Ho] <;> iassumption

end Tail

end Cert.RingProof

end
-- ==== Proof.Exchange.lean ====
/-
# The exchange of maxima

Round `r` sends the device's maximum to the partner that differs in bit `r` of the device number and takes the larger
of the two; after five rounds every device scales and rounds its products with the same maximum.
-/
module

public import proofs.«01_k».proof.Proof.Tail

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Exchange

variable (X : Dev nD → Vec F S128x4096 .f32) (W : Dev nD → Vec F S4096x256 .f32) (K : Dev nD × CI → ℕ)

/-! ## One round's resources -/

/-- What round `r` needs. -/
def maxKit (c : Dev nD) (r : ℕ) : sProp 𝕄 :=
  iprop(atPos ER (asndC r c) 0 ∅ 0 ∗ atPos ER (arcvC r c) 0 ∅ 0 ∗ cred (tallyAt (arcvC r c) 0 NA)
    ∗ dutyTok ER (asndC r c) 0 0 ∗ dutyTok ER (arcvC r (pal r c)) 0 0)
/-- What the rounds from `r` on need. -/
def maxTodo (c : Dev nD) (r : ℕ) : sProp 𝕄 := bigSep (Finset.Ico r 5) (maxKit (F := F) c)
/-- The semaphores of the rounds before `r`, back at zero, and the slots those rounds filled. -/
def maxDone (c : Dev nD) (r : ℕ) : sProp 𝕄 :=
  bigSep (Finset.Ico 0 r) fun r => iprop((semVal (asndC r c) 0 ∗ semVal (arcvC r c) 0) ∗ free (F := F) c (aslot (r + 1)))
/-- What the waits of round `r` need once it has started: the sending end's -/
def maxSnt (c : Dev nD) (r : ℕ) : sProp 𝕄 := iprop(cred (tallyAt (asndC r c) 0 NA) ∗ atPos ER (asndC r c) 0 ∅ 0)
/-- and the arriving end's. -/
def maxArr (c : Dev nD) (r : ℕ) : sProp 𝕄 := iprop(cred (tallyAt (arcvC r c) 0 NA) ∗ atPos ER (arcvC r c) 0 ∅ 0)

/-- Before round `r` starts. -/
def maxAt (c : Dev nD) (r : ℕ) : sProp 𝕄 :=
  iprop(owing c (owed c 7 16 15 8 7 r) ∗ maxTodo (F := F) c r ∗ palSlots (F := F) c r ∗ maxDone (F := F) c r)
/-- Round `r` started and nothing of it waited for. -/
def maxMid (c : Dev nD) (r : ℕ) : sProp 𝕄 :=
  iprop(owing c (owed c 7 16 15 8 7 (r + 1)) ∗ maxTodo (F := F) c (r + 1) ∗ palSlots (F := F) c (r + 1) ∗ maxDone (F := F) c r)

theorem maxDone_nil (c : Dev nD) : iprop(emp) ⊢ (maxDone (F := F) c 0 : sProp 𝕄) := by
  unfold maxDone
  rw [Finset.Ico_self, bigSep_empty]; exact .rfl

theorem wp_max_start (c n : Dev nD) (r : ℕ) (hr : r < 5) (hn : n = pal r c)
    {src dst : Memref sig .tc .vmem S8x128 .f32} (hs : src = aslot 0) (ht : dst = aslot (r + 1))
    {sS sR : DmaSem sig} (hsS : sS = asndS r) (hsR : sR = arcvS r)
    {hsc : (dst : Memref sig (Dev.tc n : Thread nD τ).2.kind .vmem S8x128 .f32).view.ref.isScScratch = false}
    {hsrc : src.view.WordExact} {hdst : dst.view.WordExact}
    {hsem : DmaTarget.Typed .vmem (.dma sR) (.remote (Dev.tc n : Thread nD τ) (dst : Memref sig .tc .vmem S8x128 .f32) (.dma sS) hsc)}
    {α : Type} {Q : α → sProp 𝕄} {k : PUnit → Prog (TpuEff nD τ sig (Elt F) Λ₀ .tc) α} :
    iprop(known X W K ∗ maxAt (F := F) c r ∗ holds c (aslot 0) fullShare (fun _ => top X W r c))
      ⊢ iprop((maxMid (F := F) c r ∗ maxSnt (F := F) c r ∗ maxArr (F := F) c r -∗ runs c (k ⟨⟩) Q)
          -∗ runs c (.op (.enqueueDma src (.remote (Dev.tc n : Thread nD τ) dst (.dma sS) hsc) (.dma sR) hsrc hdst hsem) k) Q) := by
  unfold maxAt maxTodo palSlots
  iintro ⟨#HK, ⟨HO, Ht, Hp, Hd⟩, Hm⟩ Hk
  ihave Ht' := (ico_bot hr).1 $$ Ht
  ihave Hp' := (ico_bot (show r + 2 < 7 by omega)).1 $$ Hp
  unfold maxKit
  icases Ht' with ⟨⟨Ha1, Ha2, Hc2, Ht1, Ht2⟩, Ht⟩
  icases Hp' with ⟨Hp1, Hp⟩
  iapply (wp_max_send X W K c n r hr hn hs ht hsS hsR (hsrc := hsrc) (hdst := hdst) (hsem := hsem)) $$ [HO Hm Hp1 Ht1 Ht2]
  · isplitr; · iexact HK
    isplitl [Hm]; · iexact Hm
    isplitl [Hp1]; · unfold entered; iexact Hp1
    isplitl [HO]; · iexact HO
    isplitl [Ht1] <;> iassumption
  iintro ⟨Hc1, HO⟩
  iapply Hk
  unfold maxMid maxSnt maxArr
  isplitl [HO Ht Hp Hd]
  · isplitl [HO]; · iexact HO
    isplitl [Ht]; · unfold maxTodo maxKit; iexact Ht
    isplitl [Hp]; · unfold palSlots; iexact Hp
    iexact Hd
  isplitl [Hc1 Ha1]
  · isplitl [Hc1] <;> iassumption
  isplitl [Hc2] <;> iassumption

/-- The sending end: the device's maximum is its own again. -/
theorem wp_max_snt (c : Dev nD) (r : ℕ) (hr : r < 5) {t : DmaSem sig} (ht : t = asndS r)
    {sh sh' : Shape} {e e' : EltTy} {src : Memref sig .tc .vmem sh e} {dst : Memref sig .tc .vmem sh' e'} (hd : dst.view.dmaCredit = NA)
    {hs1 : src.view.WordExact} {hs2 : dst.view.WordExact} {α : Type} {Q : α → sProp 𝕄} {k : PUnit → Prog (TpuEff nD τ sig (Elt F) Λ₀ .tc) α} :
    iprop(known X W K ∗ maxMid (F := F) c r ∗ maxSnt (F := F) c r)
      ⊢ iprop((maxMid (F := F) c r ∗ semVal (asndC r c) 0 ∗ holds c (aslot 0) fullShare (fun _ => top X W r c) -∗ runs c (k ⟨⟩) Q)
          -∗ runs c (.op (.waitDma2 (p := .tc) t src dst hs1 hs2) k) Q) := by
  unfold maxMid maxSnt
  iintro ⟨#HK, ⟨HO, Hrest⟩, Hc, Ha⟩ Hk
  iapply (wp_dma_wait X W K c (asndS r) t ht (u := .asnd r) (A := NA) 16 15 8 7 (r + 1) (use_asnd hr) (fun h => by cases h) rfl rfl
    ⟨fun h => absurd h (by omega), fun h => absurd h (by omega), fun h => absurd h (by omega), fun h => absurd h (by omega),
      fun _ => by simp only [levOf]; omega⟩ hd) $$ [HO Hc Ha]
  · isplitr; · iexact HK
    isplitl [HO]; · iexact HO
    isplitl [Hc] <;> iassumption
  iintro ⟨HO, Hv, Hp⟩
  iapply Hk
  isplitl [HO Hrest]
  · isplitl [HO] <;> iassumption
  isplitl [Hv]; · iexact Hv
  unfold payOf; iexact Hp

/-- The arriving end: the partner's maximum. -/
theorem wp_max_arr (c : Dev nD) (r : ℕ) (hr : r < 5) {t : DmaSem sig} (ht : t = arcvS r)
    {sh sh' : Shape} {e e' : EltTy} {src : Memref sig .tc .vmem sh e} {dst : Memref sig .tc .vmem sh' e'} (hd : dst.view.dmaCredit = NA)
    {hs1 : src.view.WordExact} {hs2 : dst.view.WordExact} {α : Type} {Q : α → sProp 𝕄} {k : PUnit → Prog (TpuEff nD τ sig (Elt F) Λ₀ .tc) α} :
    iprop(known X W K ∗ maxMid (F := F) c r ∗ maxArr (F := F) c r)
      ⊢ iprop((maxMid (F := F) c r ∗ semVal (arcvC r c) 0 ∗ holds c (aslot (r + 1)) fullShare (fun _ => top X W r (pal r c)) -∗ runs c (k ⟨⟩) Q)
          -∗ runs c (.op (.waitDma2 (p := .tc) t src dst hs1 hs2) k) Q) := by
  unfold maxMid maxArr
  iintro ⟨#HK, ⟨HO, Hrest⟩, Hc, Ha⟩ Hk
  iapply (wp_dma_wait X W K c (arcvS r) t ht (u := .arcv r) (A := NA) 16 15 8 7 (r + 1) (use_arcv hr) (fun h => by cases h) rfl rfl
    ⟨fun h => absurd h (by omega), fun h => absurd h (by omega), fun h => absurd h (by omega), fun h => absurd h (by omega),
      fun _ => by simp only [levOf]; omega⟩ hd) $$ [HO Hc Ha]
  · isplitr; · iexact HK
    isplitl [HO]; · iexact HO
    isplitl [Hc] <;> iassumption
  iintro ⟨HO, Hv, Hp⟩
  iapply Hk
  isplitl [HO Hrest]
  · isplitl [HO] <;> iassumption
  isplitl [Hv]; · iexact Hv
  unfold payOf; iexact Hp

/-- A round over. -/
theorem max_next (c : Dev nD) (r : ℕ) (x : Vec F S8x128 .f32) :
    iprop(maxMid (F := F) c r ∗ (semVal (asndC r c) 0 ∗ semVal (arcvC r c) 0) ∗ holds c (aslot (r + 1)) fullShare x) ⊢ maxAt (F := F) c (r + 1) := by
  unfold maxMid maxAt maxDone
  iintro ⟨⟨HO, Ht, Hp, Hd⟩, Hv, Hx⟩
  isplitl [HO]; · iexact HO
  isplitl [Ht]; · iexact Ht
  isplitl [Hp]; · iexact Hp
  iapply (ico_top (Nat.zero_le r)).2
  isplitl [Hv Hx]
  · isplitl [Hv]; · iexact Hv
    iapply (free_intro c (aslot (r + 1)) x); iexact Hx
  iexact Hd

/-- A round's two waits done, its maximum not yet taken. -/
def maxGot (c : Dev nD) (r : ℕ) : sProp 𝕄 :=
  iprop(maxMid (F := F) c r ∗ (semVal (asndC r c) 0 ∗ semVal (arcvC r c) 0) ∗ holds c (aslot (r + 1)) fullShare (fun _ => top X W r (pal r c)))
/-- A round's first wait done. -/
def maxHalf (c : Dev nD) (r : ℕ) : sProp 𝕄 :=
  iprop(maxMid (F := F) c r ∗ maxArr (F := F) c r ∗ semVal (asndC r c) 0)

theorem wp_max_snt' (c : Dev nD) (r : ℕ) (hr : r < 5) {t : DmaSem sig} (ht : t = asndS r)
    {sh sh' : Shape} {e e' : EltTy} {src : Memref sig .tc .vmem sh e} {dst : Memref sig .tc .vmem sh' e'} (hd : dst.view.dmaCredit = NA)
    {hs1 : src.view.WordExact} {hs2 : dst.view.WordExact} {α : Type} {Q : α → sProp 𝕄} {k : PUnit → Prog (TpuEff nD τ sig (Elt F) Λ₀ .tc) α} :
    iprop(known X W K ∗ maxMid (F := F) c r ∗ maxSnt (F := F) c r ∗ maxArr (F := F) c r)
      ⊢ iprop((maxHalf (F := F) c r ∗ holds c (aslot 0) fullShare (fun _ => top X W r c) -∗ runs c (k ⟨⟩) Q)
          -∗ runs c (.op (.waitDma2 (p := .tc) t src dst hs1 hs2) k) Q) := by
  iintro ⟨#HK, Hm, Hs, Ha⟩ Hk
  iapply (wp_max_snt X W K c r hr ht hd) $$ [Hm Hs]
  · isplitr; · iexact HK
    isplitl [Hm] <;> iassumption
  iintro ⟨Hm, Hv, Hx⟩
  iapply Hk
  unfold maxHalf
  isplitl [Hm Hv Ha]
  · isplitl [Hm]; · iexact Hm
    isplitl [Ha] <;> iassumption
  iexact Hx

theorem wp_max_arr' (c : Dev nD) (r : ℕ) (hr : r < 5) {t : DmaSem sig} (ht : t = arcvS r)
    {sh sh' : Shape} {e e' : EltTy} {src : Memref sig .tc .vmem sh e} {dst : Memref sig .tc .vmem sh' e'} (hd : dst.view.dmaCredit = NA)
    {hs1 : src.view.WordExact} {hs2 : dst.view.WordExact} {α : Type} {Q : α → sProp 𝕄} {k : PUnit → Prog (TpuEff nD τ sig (Elt F) Λ₀ .tc) α} :
    iprop(known X W K ∗ maxHalf (F := F) c r)
      ⊢ iprop((maxGot X W c r -∗ runs c (k ⟨⟩) Q) -∗ runs c (.op (.waitDma2 (p := .tc) t src dst hs1 hs2) k) Q) := by
  unfold maxHalf
  iintro ⟨#HK, Hm, Ha, Hv⟩ Hk
  iapply (wp_max_arr X W K c r hr ht hd) $$ [Hm Ha]
  · isplitr; · iexact HK
    isplitl [Hm] <;> iassumption
  iintro ⟨Hm, Hw, Hx⟩
  iapply Hk
  unfold maxGot
  isplitl [Hm]; · iexact Hm
  isplitl [Hv Hw]
  · isplitl [Hv] <;> iassumption
  iexact Hx

/-- Reading the partner's maximum: the round is over. -/
theorem wp_max_read (c : Dev nD) (r : ℕ) {off : Fin 3 → ℕ} (ho : off = ![(r + 1) % 6, 0, 0])
    {hin : ∀ a, off a + S1x1x1.size a ≤ S6x8x128.size a} {hl} {α : Type} {Q : α → sProp 𝕄}
    {k : Vec F S1x1x1 .f32 → Prog (TpuEff nD τ sig (Elt F) Λ₀ .tc) α} :
    maxGot X W c r ⊢ iprop((maxAt (F := F) c (r + 1) -∗ runs c (k fun _ => top X W r (pal r c)) Q)
      -∗ runs c (.op (.load aM (Rect.unit (s := S6x8x128) off S1x1x1.size hin).toLoadRect hl) k) Q) := by
  unfold maxGot
  iintro ⟨Hm, Hv, Hx⟩ Hk
  iapply (wp_load_point c (r + 1) (top X W r (pal r c)) ho) $$ Hx
  iintro Hx
  iapply Hk
  iapply (max_next c r _)
  isplitl [Hm]; · iexact Hm
  isplitl [Hv] <;> iassumption

/-! ## The rounds, piece by piece -/

/-- The device's own maximum after `r` rounds. -/
abbrev mine (c : Dev nD) (r : ℕ) : sProp 𝕄 := holds c (aslot 0) fullShare (fun _ => top X W r c)

theorem credit_mine {off : Fin 3 → ℕ} (hin : ∀ a, off a + S1x8x128.size a ≤ S6x8x128.size a) :
    ((aM.slice (Rect.unit (s := S6x8x128) off S1x8x128.size hin) (fun _ => rfl)).squeeze S8x128 squeezes_S1x8x128_S8x128).view.dmaCredit = NA := by
  unfold NA; rfl

theorem wp_part12 (c : Dev nD) (v2 v198 : BitVec 32) {Q : (Σ' (_ : F .f32) (_ : BitVec 32), FVec F S1x8x128 .f32) → sProp 𝕄} :
    iprop(known X W K ∗ maxAt (F := F) c 0 ∗ mine X W c 0)
      ⊢ iprop((∀ b, maxAt (F := F) c 1 ∗ mine X W c 0 -∗ Q ⟨top X W 1 c, b, fun _ => top X W 1 c⟩)
          -∗ runs c (onBufs (k0_part12 (F := F)) c v2 (top X W 0 c) v198) Q) := by
  rw [k0_part12_eq_skeleton]
  unfold onBufs k0_part12_skel
  simp only [Prog.lift, Prog.bind_op, Prog.bind_ret, Prog.pure_eq_ret]
  iintro ⟨#HK, Hm, Hx⟩ Hk
  iapply (wp_max_start X W K c _ 0 (by omega) (dev15_eq c) rfl rfl sem_asnd0 sem_arcv0) $$ [Hm Hx]
  · isplitr; · iexact HK
    isplitl [Hm] <;> iassumption
  iintro ⟨Hm, Hs, Ha⟩
  iapply (wp_max_snt' X W K c 0 (by omega) sem_asnd0 (credit_mine _)) $$ [Hm Hs Ha]
  · isplitr; · iexact HK
    isplitl [Hm]; · iexact Hm
    isplitl [Hs] <;> iassumption
  iintro ⟨Hm, Hx⟩
  iapply (wp_max_arr' X W K c 0 (by omega) sem_arcv0 (credit_mine _)) $$ [Hm]
  · isplitr; · iexact HK
    iexact Hm
  iintro Hm
  iapply (wp_max_read X W c 0 rfl) $$ Hm
  iintro Hm
  iapply (wp_load_mine c _) $$ Hx
  iintro %z Hx
  iapply runs_ret
  rw [show k0_pay15 (top X W 0 c) (fun _ => top X W 0 (pal 0 c)) = (fun _ => top X W 1 c) from rfl,
    show k0_pay14 (top X W 0 c) (fun _ => top X W 0 (pal 0 c)) = top X W 1 c from rfl]
  iapply Hk
  isplitl [Hm] <;> iassumption

theorem wp_part13 (c : Dev nD) (v230 : BitVec 32) {Q : PUnit → sProp 𝕄} :
    iprop(known X W K ∗ maxAt (F := F) c 1 ∗ mine X W c 0)
      ⊢ iprop((maxGot X W c 1 ∗ mine X W c 1 -∗ Q ⟨⟩)
          -∗ runs c (onBufs (k0_part13 (F := F)) c v230 (fun _ => top X W 1 c)) Q) := by
  rw [k0_part13_eq_skeleton]
  unfold onBufs k0_part13_skel
  simp only [Prog.lift, Prog.bind_op, Prog.bind_ret, Prog.pure_eq_ret]
  iintro ⟨#HK, Hm, Hx⟩ Hk
  iapply (wp_store_mine c _ (top X W 1 c) rfl) $$ Hx
  iintro Hx
  iapply (wp_max_start X W K c _ 1 (by omega) (dev16_eq c) rfl rfl sem_asnd1 sem_arcv1) $$ [Hm Hx]
  · isplitr; · iexact HK
    isplitl [Hm] <;> iassumption
  iintro ⟨Hm, Hs, Ha⟩
  iapply (wp_max_snt' X W K c 1 (by omega) sem_asnd1 (credit_mine _)) $$ [Hm Hs Ha]
  · isplitr; · iexact HK
    isplitl [Hm]; · iexact Hm
    isplitl [Hs] <;> iassumption
  iintro ⟨Hm, Hx⟩
  iapply (wp_max_arr' X W K c 1 (by omega) sem_arcv1 (credit_mine _)) $$ [Hm]
  · isplitr; · iexact HK
    iexact Hm
  iintro Hm
  iapply runs_ret
  iapply Hk
  isplitl [Hm] <;> iassumption

theorem wp_part14 (c : Dev nD) (v2 : BitVec 32) {Q : F .f32 → sProp 𝕄} :
    iprop(known X W K ∗ maxGot X W c 1 ∗ mine X W c 1)
      ⊢ iprop((maxHalf (F := F) c 2 ∗ mine X W c 2 -∗ Q (top X W 2 c))
          -∗ runs c (onBufs (k0_part14 (F := F)) c v2 (top X W 1 c)) Q) := by
  rw [k0_part14_eq_skeleton]
  unfold onBufs k0_part14_skel
  simp only [Prog.lift, Prog.bind_op, Prog.bind_ret, Prog.pure_eq_ret]
  iintro ⟨#HK, Hm, Hx⟩ Hk
  iapply (wp_max_read X W c 1 rfl) $$ Hm
  iintro Hm
  iapply (wp_load_mine c _) $$ Hx
  iintro %z Hx
  iapply (wp_store_mine c _ (top X W 2 c) (by rw [pay17_eq, pay16_eq]; rfl)) $$ Hx
  iintro Hx
  iapply (wp_max_start X W K c _ 2 (by omega) (dev17_eq c) rfl rfl sem_asnd2 sem_arcv2) $$ [Hm Hx]
  · isplitr; · iexact HK
    isplitl [Hm] <;> iassumption
  iintro ⟨Hm, Hs, Ha⟩
  iapply (wp_max_snt' X W K c 2 (by omega) sem_asnd2 (credit_mine _)) $$ [Hm Hs Ha]
  · isplitr; · iexact HK
    isplitl [Hm]; · iexact Hm
    isplitl [Hs] <;> iassumption
  iintro ⟨Hm, Hx⟩
  iapply runs_ret
  rw [show k0_pay16 (top X W 1 c) (fun _ => top X W 1 (pal 1 c)) = top X W 2 c from rfl]
  iapply Hk
  isplitl [Hm] <;> iassumption

theorem wp_part15 (c : Dev nD) (v2 : BitVec 32) {Q : (Σ' (_ : F .f32), BitVec 32) → sProp 𝕄} :
    iprop(known X W K ∗ maxHalf (F := F) c 2 ∗ mine X W c 2)
      ⊢ iprop((∀ b, maxMid (F := F) c 3 ∗ maxSnt (F := F) c 3 ∗ maxArr (F := F) c 3 -∗ Q ⟨top X W 3 c, b⟩)
          -∗ runs c (onBufs (k0_part15 (F := F)) c v2 (top X W 2 c)) Q) := by
  rw [k0_part15_eq_skeleton]
  unfold onBufs k0_part15_skel
  simp only [Prog.lift, Prog.bind_op, Prog.bind_ret, Prog.pure_eq_ret]
  iintro ⟨#HK, Hm, Hx⟩ Hk
  iapply (wp_max_arr' X W K c 2 (by omega) sem_arcv2 (credit_mine _)) $$ [Hm]
  · isplitr; · iexact HK
    iexact Hm
  iintro Hm
  iapply (wp_max_read X W c 2 rfl) $$ Hm
  iintro Hm
  iapply (wp_load_mine c _) $$ Hx
  iintro %z Hx
  iapply (wp_store_mine c _ (top X W 3 c) (by rw [pay19_eq, pay18_eq]; rfl)) $$ Hx
  iintro Hx
  iapply (wp_max_start X W K c _ 3 (by omega) (dev18_eq c) rfl rfl sem_asnd3 sem_arcv3) $$ [Hm Hx]
  · isplitr; · iexact HK
    isplitl [Hm] <;> iassumption
  iintro ⟨Hm, Hs, Ha⟩
  iapply runs_ret
  rw [show k0_pay18 (top X W 2 c) (fun _ => top X W 2 (pal 2 c)) = top X W 3 c from rfl]
  iapply Hk
  isplitl [Hm]; · iexact Hm
  isplitl [Hs] <;> iassumption

theorem wp_part16 (c : Dev nD) (v2 v294 : BitVec 32) {Q : (Σ' (_ : F .f32), BitVec 32) → sProp 𝕄} :
    iprop(known X W K ∗ maxMid (F := F) c 3 ∗ maxSnt (F := F) c 3 ∗ maxArr (F := F) c 3)
      ⊢ iprop((∀ b, maxMid (F := F) c 4 ∗ maxSnt (F := F) c 4 ∗ maxArr (F := F) c 4 -∗ Q ⟨top X W 4 c, b⟩)
          -∗ runs c (onBufs (k0_part16 (F := F)) c v2 (top X W 3 c) v294) Q) := by
  rw [k0_part16_eq_skeleton]
  unfold onBufs k0_part16_skel
  simp only [Prog.lift, Prog.bind_op, Prog.bind_ret, Prog.pure_eq_ret]
  iintro ⟨#HK, Hm, Hs, Ha⟩ Hk
  iapply (wp_max_snt' X W K c 3 (by omega) sem_asnd3 (credit_mine _)) $$ [Hm Hs Ha]
  · isplitr; · iexact HK
    isplitl [Hm]; · iexact Hm
    isplitl [Hs] <;> iassumption
  iintro ⟨Hm, Hx⟩
  iapply (wp_max_arr' X W K c 3 (by omega) sem_arcv3 (credit_mine _)) $$ [Hm]
  · isplitr; · iexact HK
    iexact Hm
  iintro Hm
  iapply (wp_max_read X W c 3 rfl) $$ Hm
  iintro Hm
  iapply (wp_load_mine c _) $$ Hx
  iintro %z Hx
  iapply (wp_store_mine c _ (top X W 4 c) (by rw [pay21_eq, pay20_eq]; rfl)) $$ Hx
  iintro Hx
  iapply (wp_max_start X W K c _ 4 (by omega) (dev19_eq c) rfl rfl sem_asnd4 sem_arcv4) $$ [Hm Hx]
  · isplitr; · iexact HK
    isplitl [Hm] <;> iassumption
  iintro ⟨Hm, Hs, Ha⟩
  iapply runs_ret
  rw [show k0_pay20 (top X W 3 c) (fun _ => top X W 3 (pal 3 c)) = top X W 4 c from rfl]
  iapply Hk
  isplitl [Hm]; · iexact Hm
  isplitl [Hs] <;> iassumption

theorem wp_part17 (c : Dev nD) (v326 : BitVec 32) {Q : PUnit → sProp 𝕄} :
    iprop(known X W K ∗ (maxMid (F := F) c 4 ∗ maxSnt (F := F) c 4 ∗ maxArr (F := F) c 4) ∗ ((c : Thread nD τ).loc cc0_stg2_0 ↦{fullShare} prods X W c))
      ⊢ iprop((maxAt (F := F) c 5 ∗ mine X W c 4 ∗ ((c : Thread nD τ).loc cc0_stg2_0 ↦{fullShare} result X W c) -∗ Q ⟨⟩)
          -∗ runs c (onBufs (k0_part17 (F := F)) (top X W 4 c) v326) Q) := by
  rw [k0_part17_eq_skeleton]
  unfold onBufs k0_part17_skel
  simp only [Prog.lift, Prog.bind_op, Prog.bind_ret, Prog.pure_eq_ret]
  iintro ⟨#HK, ⟨Hm, Hs, Ha⟩, Ho⟩ Hk
  iapply (wp_max_snt' X W K c 4 (by omega) sem_asnd4 (credit_mine _)) $$ [Hm Hs Ha]
  · isplitr; · iexact HK
    isplitl [Hm]; · iexact Hm
    isplitl [Hs] <;> iassumption
  iintro ⟨Hm, Hx⟩
  iapply (wp_max_arr' X W K c 4 (by omega) sem_arcv4 (credit_mine _)) $$ [Hm]
  · isplitr; · iexact HK
    iexact Hm
  iintro Hm
  iapply (wp_max_read X W c 4 rfl) $$ Hm
  iintro Hm
  iapply (wp_load_out c (prods X W c)) $$ Ho
  iintro Ho
  iapply (wp_load_out c (prods X W c)) $$ Ho
  iintro Ho
  rw [pay22_eq]
  iapply (wp_store_out c (prods X W c) _) $$ Ho
  iintro Ho
  iapply runs_ret
  iapply Hk
  isplitl [Hm]; · iexact Hm
  isplitl [Hx]; · iexact Hx
  iexact Ho

end Exchange

end Cert.RingProof

end
-- ==== Proof.Body.lean ====
/-
# The whole body

What the body of the kernel needs on each device, what it leaves, and that it runs from the one to the other.
-/
module

public import proofs.«01_k».proof.Proof.Exchange

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Body

variable (X : Dev nD → Vec F S128x4096 .f32) (W : Dev nD → Vec F S4096x256 .f32) (K : Dev nD × CI → ℕ)

theorem bigs_sep {I : Type} (s : Finset I) (P Q : I → sProp 𝕄) : (bigSep s fun i => iprop(P i ∗ Q i)) = iprop(bigSep s P ∗ bigSep s Q) := bigSep_sep s P Q

/-! ## Slots in turn -/

theorem frees_down (d : Bool) (c : Dev nD) : ∀ a, frees (F := F) d a (a + 8) c ⊢ (frees (F := F) d 0 8 c : sProp 𝕄)
  | 0 => .rfl
  | a + 1 => by
    refine .trans ?_ (frees_down d c a)
    unfold frees
    iintro H
    ihave H' := (ico_top (a := a + 1) (b := a + 8) (by omega)).1 $$ H
    icases H' with ⟨H1, H⟩
    iapply (ico_bot (a := a) (b := a + 8) (by omega)).2
    isplitl [H1]
    · rw [slot_wrap]; iexact H1
    iexact H

/-- The slots of the maxima. -/
def aslots (c : Dev nD) : sProp 𝕄 := bigSep (Finset.Ico 0 6) fun r => free (F := F) c (aslot r)

/-- The barrier's tokens and this device's own slots: what its units carry. -/
theorem barTodo_intro (c : Dev nD) :
    iprop((bigSep (Finset.Ico 0 7) fun i => dutyTok ER (barC (barTo i c)) 0 i) ∗ frees (F := F) true 0 8 c ∗ frees (F := F) false 0 8 c ∗ aslots (F := F) c)
      ⊢ iprop(barTodo (F := F) c 0 ∗ free (F := F) c (aslot 0)) := by
  have e (r : ℕ) : (free (F := F) c (aslot (r + 1)) : sProp 𝕄) = entered (barTo (r + 2) c) (r + 2) := by
    show _ = free (F := F) (pal r (pal r c)) (aslot (r + 1)); rw [pal_pal]
  have e0 : (frees (F := F) true 0 8 c : sProp 𝕄) = entered (barTo 0 c) 0 := by
    show _ = frees (F := F) true 0 8 (rightOf (leftOf c)); rw [right_left]
  have e1 : (frees (F := F) false 0 8 c : sProp 𝕄) = entered (barTo 1 c) 1 := by
    show _ = frees (F := F) false 0 8 (leftOf (rightOf c)); rw [left_right]
  unfold barTodo aslots
  rw [bigs_sep, e0, e1]
  iintro ⟨Ht, H0, H1, Ha⟩
  ihave Ha' := (ico_bot (a := 0) (b := 6) (by omega)).1 $$ Ha
  icases Ha' with ⟨A0, Ha⟩
  ihave Ha' := (ico_bot (a := 1) (b := 6) (by omega)).1 $$ Ha
  icases Ha' with ⟨A1, Ha⟩
  ihave Ha' := (ico_bot (a := 2) (b := 6) (by omega)).1 $$ Ha
  icases Ha' with ⟨A2, Ha⟩
  ihave Ha' := (ico_bot (a := 3) (b := 6) (by omega)).1 $$ Ha
  icases Ha' with ⟨A3, Ha⟩
  ihave Ha' := (ico_bot (a := 4) (b := 6) (by omega)).1 $$ Ha
  icases Ha' with ⟨A4, Ha⟩
  ihave Ha' := (ico_bot (a := 5) (b := 6) (by omega)).1 $$ Ha
  icases Ha' with ⟨A5, -⟩
  isplitr [A0]
  · isplitl [Ht]; · iexact Ht
    iapply (ico_bot (a := 0) (b := 7) (by omega)).2; isplitl [H0]; · iexact H0
    iapply (ico_bot (a := 1) (b := 7) (by omega)).2; isplitl [H1]; · iexact H1
    iapply (ico_bot (a := 2) (b := 7) (by omega)).2; isplitl [A1]; · rw [← e 0]; iexact A1
    iapply (ico_bot (a := 3) (b := 7) (by omega)).2; isplitl [A2]; · rw [← e 1]; iexact A2
    iapply (ico_bot (a := 4) (b := 7) (by omega)).2; isplitl [A3]; · rw [← e 2]; iexact A3
    iapply (ico_bot (a := 5) (b := 7) (by omega)).2; isplitl [A4]; · rw [← e 3]; iexact A4
    iapply (ico_bot (a := 6) (b := 7) (by omega)).2; isplitl [A5]; · rw [← e 4]; iexact A5
    rw [Finset.Ico_self, bigSep_empty]; iempintro
  iexact A0

/-- The slots of the maxima after the exchange. -/
theorem aslots_done (c : Dev nD) :
    iprop(maxDone (F := F) c 5 ∗ free (F := F) c (aslot 0))
      ⊢ iprop((bigSep (Finset.Ico 0 5) fun r => iprop(semVal (asndC r c) 0 ∗ semVal (arcvC r c) 0)) ∗ aslots (F := F) c) := by
  unfold maxDone aslots
  rw [bigs_sep]
  iintro ⟨⟨Hv, Ha⟩, A0⟩
  ihave Ha' := (ico_bot (a := 0) (b := 5) (by omega)).1 $$ Ha
  icases Ha' with ⟨A1, Ha⟩
  ihave Ha' := (ico_bot (a := 1) (b := 5) (by omega)).1 $$ Ha
  icases Ha' with ⟨A2, Ha⟩
  ihave Ha' := (ico_bot (a := 2) (b := 5) (by omega)).1 $$ Ha
  icases Ha' with ⟨A3, Ha⟩
  ihave Ha' := (ico_bot (a := 3) (b := 5) (by omega)).1 $$ Ha
  icases Ha' with ⟨A4, Ha⟩
  ihave Ha' := (ico_bot (a := 4) (b := 5) (by omega)).1 $$ Ha
  icases Ha' with ⟨A5, -⟩
  isplitl [Hv]; · iexact Hv
  iapply (ico_bot (a := 0) (b := 6) (by omega)).2; isplitl [A0]; · iexact A0
  iapply (ico_bot (a := 1) (b := 6) (by omega)).2; isplitl [A1]; · iexact A1
  iapply (ico_bot (a := 2) (b := 6) (by omega)).2; isplitl [A2]; · iexact A2
  iapply (ico_bot (a := 3) (b := 6) (by omega)).2; isplitl [A3]; · iexact A3
  iapply (ico_bot (a := 4) (b := 6) (by omega)).2; isplitl [A4]; · iexact A4
  iapply (ico_bot (a := 5) (b := 6) (by omega)).2; isplitl [A5]; · iexact A5
  rw [Finset.Ico_self, bigSep_empty]; iempintro

/-! ## The body -/

/-- What the body of device `c` needs of the semaphores, -/
def ghosts (c : Dev nD) : sProp 𝕄 :=
  iprop((bigSep (Finset.Ico 0 7) fun i => dutyTok ER (barC (barTo i c)) 0 i) ∗ cred (tallyAt (barC c) 0 7) ∗ atPos ER (barC c) 0 ∅ 0
    ∗ hopTodo (F := F) true c 0 ∗ hopTodo (F := F) false c 0
    ∗ (credWaits (F := F) true 0 c ∗ credGives (F := F) true 0 c) ∗ (credWaits (F := F) false 0 c ∗ credGives (F := F) false 0 c)
    ∗ maxTodo (F := F) c 0)
/-- of the scratch buffers, -/
def scratch (c : Dev nD) : sProp 𝕄 := iprop(frees (F := F) true 0 8 c ∗ frees (F := F) false 0 8 c ∗ aslots (F := F) c)
/-- and its semaphores once it is over. -/
def zeros (c : Dev nD) : sProp 𝕄 :=
  iprop(semVal (barC c) 0 ∗ hopDone (F := F) true c 16 ∗ hopDone (F := F) false c 15 ∗ semVal (credC true c) 0 ∗ semVal (credC false c) 0
    ∗ (bigSep (Finset.Ico 0 5) fun r => iprop(semVal (asndC r c) 0 ∗ semVal (arcvC r c) 0)))

theorem creditAt_end (d : Bool) (c : Dev nD) (k : ℕ) (hk : k = creds d) : credWaits (F := F) d k c ⊢ (semVal (credC d c) 0 : sProp 𝕄) := by
  subst hk
  unfold credWaits creditAt
  rw [if_neg (Nat.lt_irrefl _)]
  iintro ⟨-, H⟩
  iexact H

theorem wp_part5 (c : Dev nD) {Q : _ → sProp 𝕄} :
    iprop(∀ v2 v13 v25 v27 v28 v29 v30 v31, Q ⟨c, v2, v13, v25, SemArray.scalar (sig.barrier 0 rfl), v27, v28, v29, v30, v31⟩)
      ⊢ runs c (onBufs (k0_part5 (F := F))) Q := by
  rw [k0_part5_eq_skeleton]
  unfold onBufs k0_part5_skel
  simp only [Prog.lift, Prog.bind_op, Prog.bind_ret, Prog.pure_eq_ret, wp_deviceId]
  iintro Hk
  iapply runs_ret
  iapply Hk

theorem wp_body (c : Dev nD) {Q : PUnit → sProp 𝕄} :
    iprop(known X W K ∗ owing c (owed c 0 0 0 0 0 0) ∗ ghosts (F := F) c ∗ scratch (F := F) c
        ∗ holds c xM fullShare (X c) ∗ holds c wM fullShare (W c) ∗ (∃ f : Vec F S4096x256 .f32, (c : Thread nD τ).loc cc0_stg2_0 ↦{fullShare} f))
      ⊢ iprop((owing c 0 ∗ zeros (F := F) c ∗ scratch (F := F) c
            ∗ holds c xM fullShare (X c) ∗ holds c wM fullShare (W c) ∗ ((c : Thread nD τ).loc cc0_stg2_0 ↦{fullShare} result X W c) -∗ Q ⟨⟩)
          -∗ runs c (onBufs (cc0_body (F := F))) Q) := by
  rw [cc0_body_eq_skeleton]
  unfold onBufs cc0_body_skel
  unfold ghosts scratch
  iintro ⟨#HK, HO, ⟨Tb, Cb, Ab, Rt, Lt, Rc, Lc, Mt⟩, Hsc, Hx, Hw, Ho⟩ Hk
  ihave Hb' := (barTodo_intro c) $$ [Tb Hsc]
  · isplitl [Tb] <;> iassumption
  icases Hb' with ⟨Hb, Hm⟩
  ihave Hx' := (x_split c (X c)).1 $$ Hx
  icases Hx' with ⟨⟨HxR, HxL⟩, Hx⟩
  ihave Hr := (show iprop(∃ f : Vec F S4096x256 .f32, (c : Thread nD τ).loc cc0_stg2_0 ↦{fullShare} f) ⊢ rows X W c (fun _ => False) from by
    unfold rows
    iintro ⟨%f, H⟩
    iexists f
    isplitr; · ipureintro; exact fun _ h => h.elim
    iexact H) $$ Ho
  iapply runs_bind
  iapply (wp_part5 c)
  iintro %v2 %v13 %v25 %v27 %v28 %v29 %v30 %v31
  dsimp only
  iapply runs_bind
  iapply (wp_part6 X W K c v13 v27 v28 v29 v30 v31) $$ [HO Hb Cb Ab Rt HxR]
  · isplitr; · iexact HK
    isplitl [HO]; · iexact HO
    isplitl [Hb]; · iexact Hb
    isplitl [Cb]; · iexact Cb
    isplitl [Ab]; · iexact Ab
    isplitl [Rt]; · iexact Rt
    unfold sent; iexact HxR
  iintro %a ⟨HO, Vb, Rt, Rm, Rp, Lp, Mp⟩
  iapply runs_bind
  iapply (wp_part7 X W K c v2 v13 v25 a) $$ [HO Rm Lt HxL Lp Hx Hw Hr]
  · isplitr; · iexact HK
    isplitl [HO]; · iexact HO
    isplitl [Rm]; · iexact Rm
    isplitl [Lt]; · iexact Lt
    isplitl [HxL]; · unfold sent; iexact HxL
    isplitl [Lp]; · iexact Lp
    isplitl [Hx]; · iexact Hx
    isplitl [Hw] <;> iassumption
  iintro ⟨HO, Rv, HxR, Ra, Lt, Lm, Lp, Hx, Hw, Hr⟩
  iapply runs_bind
  iapply (wp_part8 X W K c v2 v13 v25) $$ [HO Rt Rp Rv Ra Lt Lp Lm Rc Lc Hw Hr]
  · isplitr; · iexact HK
    isplitl [HO]; · iexact HO
    isplitl [Rt Rp Rv Ra]
    · isplitl [Rt]; · iexact Rt
      isplitl [Rp]; · iexact Rp
      isplitl [Rv] <;> iassumption
    isplitl [Lt Lp Lm]
    · isplitl [Lt]; · iexact Lt
      isplitl [Lp] <;> iassumption
    isplitl [Rc]; · iexact Rc
    isplitl [Lc]; · iexact Lc
    isplitl [Hw] <;> iassumption
  iintro %b1 %b2 %b3 ⟨HO, HxL, ⟨Rm, Ro, Rx, Rd, Rw⟩, ⟨Lo, Lx, Ld, Lw⟩, Hw, Hr⟩
  dsimp only
  iapply runs_bind
  iapply (wp_part9 X W c v2 (acc X W c 14) b1 b2 b3 fullShare.right fullShare (Seen c 14)) $$ [Rx Lx Hw Hr]
  · isplitl [Rx]; · iexact Rx
    isplitl [Lx]; · iexact Lx
    isplitl [Hw] <;> iassumption
  iintro %b4 %v %hv ⟨Rx, Lx, Hw, Hr⟩
  dsimp only
  iapply runs_bind
  iapply (wp_part10 X W K c v2 v13 _ b4 v hv _) $$ [HO Rm Hw Hr]
  · isplitr; · iexact HK
    isplitl [HO]; · iexact HO
    isplitl [Rm]; · iexact Rm
    isplitl [Hw] <;> iassumption
  iintro %b5 %b6 ⟨HO, Rv, RxL, Rz, Hw, Hr⟩
  dsimp only
  iapply runs_bind
  iapply (wp_part11 X W c v2 b5 b6 _) $$ [Rz Hw Hr Hm]
  · isplitl [Rz]; · iexact Rz
    isplitl [Hw]; · iexact Hw
    isplitl [Hr] <;> iassumption
  iintro %b7 ⟨Rz, Hw, Hr, Hm⟩
  dsimp only
  iapply runs_bind
  iapply (wp_part12 X W K c v2 b7) $$ [HO Mt Mp Hm]
  · isplitr; · iexact HK
    isplitr [Hm]
    · unfold maxAt
      isplitl [HO]; · iexact HO
      isplitl [Mt]; · iexact Mt
      isplitl [Mp]; · iexact Mp
      iapply (maxDone_nil c); iempintro
    iexact Hm
  iintro %b8 ⟨Hq, Hm⟩
  dsimp only
  iapply runs_bind
  iapply (wp_part13 X W K c b8) $$ [Hq Hm]
  · isplitr; · iexact HK
    isplitl [Hq] <;> iassumption
  iintro ⟨Hq, Hm⟩
  iapply runs_bind
  iapply (wp_part14 X W K c v2) $$ [Hq Hm]
  · isplitr; · iexact HK
    isplitl [Hq] <;> iassumption
  iintro ⟨Hq, Hm⟩
  iapply runs_bind
  iapply (wp_part15 X W K c v2) $$ [Hq Hm]
  · isplitr; · iexact HK
    isplitl [Hq] <;> iassumption
  iintro %b9 Hq
  dsimp only
  iapply runs_bind
  iapply (wp_part16 X W K c v2 b9) $$ [Hq]
  · isplitr; · iexact HK
    iexact Hq
  iintro %b10 Hq
  dsimp only
  unfold rows
  icases Hr with ⟨%f, %hf, Ho⟩
  have hfp : f = prods X W c := prods_of_rows X W c f fun e => hf e (by
    rcases covered c e with h | ⟨h, hh, he⟩ | ⟨h, hh, he⟩
    · exact .inl (.inl (.inl (.inl h)))
    · rcases (by omega : h < 14 ∨ h = 14 ∨ h = 15) with h' | rfl | rfl
      · exact .inl (.inl (.inl (.inr ⟨h, h', .inl he⟩)))
      · exact .inl (.inl (.inr he))
      · exact .inr he
    · rcases (by omega : h < 14 ∨ h = 14) with h' | rfl
      · exact .inl (.inl (.inl (.inr ⟨h, h', .inr he⟩)))
      · exact .inl (.inr he))
  subst hfp
  iapply runs_bind
  iapply (wp_part17 X W K c b10) $$ [Hq Ho]
  · isplitr; · iexact HK
    isplitl [Hq] <;> iassumption
  iintro ⟨Hq, Hm, Ho⟩
  iapply runs_ret
  iapply Hk
  unfold maxAt
  icases Hq with ⟨HO, -, -, Md⟩
  ihave Md' := (aslots_done c) $$ [Md Hm]
  · isplitl [Md]; · iexact Md
    iapply (free_intro c (aslot 0) _); iexact Hm
  icases Md' with ⟨Mv, Ma⟩
  isplitl [HO]; · rw [← owed_done c]; iexact HO
  isplitl [Vb Rd Rv Ld Rw Lw Mv]
  · unfold zeros
    isplitl [Vb]; · iexact Vb
    isplitl [Rd Rv]
    · iapply (hopDone_succ true c 15)
      isplitl [Rd] <;> iassumption
    isplitl [Ld]; · iexact Ld
    isplitl [Rw]; · iapply (creditAt_end true c 8 rfl); iexact Rw
    isplitl [Lw]; · iapply (creditAt_end false c 7 rfl); iexact Lw
    iexact Mv
  isplitl [Ro Rx RxL Rz Lo Lx Ma]
  · isplitl [Ro Rx RxL Rz]
    · iapply (frees_down true c 16)
      iapply (frees_more true c (a := 16) (h := 15) (by omega) (X (origin true 15 c)))
      isplitr [Rz]
      · iapply (frees_more true c (a := 16) (h := 14) (by omega) (X (origin true 14 c)))
        isplitl [Ro]; · iexact Ro
        iapply (holds_halves c (slot true 14) fullShare (X (origin true 14 c))).2
        isplitl [RxL] <;> iassumption
      iexact Rz
    isplitl [Lo Lx]
    · iapply (frees_down false c 15)
      iapply (frees_more false c (a := 15) (h := 14) (by omega) (X (origin false 14 c)))
      isplitl [Lo] <;> iassumption
    iexact Ma
  isplitl [Hx HxR HxL]
  · iapply (x_split c (X c)).2
    isplitl [HxR HxL]
    · unfold sent
      isplitl [HxR] <;> iassumption
    iexact Hx
  isplitl [Hw] <;> iassumption

end Body

end Cert.RingProof

end
-- ==== Proof.Families.lean ====
/-
# The semaphores in families

The semaphores in use on one device are the barrier, and the device's own: a credit semaphore per ring, two semaphores per
hop of each ring, and two per round of the exchange of maxima.
-/
module

public import proofs.«01_k».proof.Proof.Body

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The semaphores in use but the barrier. -/
abbrev OI : Type := {s : SemLoc sig // use s ≠ .none ∧ use s ≠ .bar}

/-- Something of each semaphore of the hops of ring `d`, -/
def hopFam (d : Bool) (P : SemLoc sig → sProp 𝕄) : sProp 𝕄 :=
  bigSep (Finset.Ico 0 (hops d)) fun h => iprop(P (.dma (sndS d h)) ∗ P (.dma (rcvS d h)))
/-- of each semaphore of the rounds of the exchange, -/
def maxFam (P : SemLoc sig → sProp 𝕄) : sProp 𝕄 :=
  bigSep (Finset.Ico 0 5) fun r => iprop(P (.dma (asndS r)) ∗ P (.dma (arcvS r)))
/-- and of each semaphore of a device but the barrier. -/
def ownFam (P : SemLoc sig → sProp 𝕄) : sProp 𝕄 :=
  iprop((P (.reg (creditS true)) ∗ P (.reg (creditS false))) ∗ (hopFam true P ∗ hopFam false P) ∗ maxFam P)

def hopSet (d : Bool) (h : ℕ) : Finset (SemLoc sig) := {.dma (sndS d h), .dma (rcvS d h)}
def maxSet (r : ℕ) : Finset (SemLoc sig) := {.dma (asndS r), .dma (arcvS r)}
def credSet : Finset (SemLoc sig) := {.reg (creditS true), .reg (creditS false)}
def hopsSet (d : Bool) : Finset (SemLoc sig) := (Finset.Ico 0 (hops d)).biUnion (hopSet d)
def maxsSet : Finset (SemLoc sig) := (Finset.Ico 0 5).biUnion maxSet

omit [FloatOps F] in
theorem hopFam_eq (d : Bool) (P : SemLoc sig → sProp 𝕄) : bigSep (hopsSet d) P = hopFam d P := by
  unfold hopsSet hopFam
  rw [bigSep_biUnion_eq _ _ _ (by cases d <;> decide +kernel)]
  refine bigSep_congr fun h hh => ?_
  unfold hopSet
  rw [bigSep_insert (Finset.notMem_singleton.mpr ?_), bigSep_singleton]
  · rfl
  · clear P; revert h; cases d <;> decide +kernel

omit [FloatOps F] in
theorem maxFam_eq (P : SemLoc sig → sProp 𝕄) : bigSep maxsSet P = maxFam P := by
  unfold maxsSet maxFam
  rw [bigSep_biUnion_eq _ _ _ (by decide +kernel)]
  refine bigSep_congr fun h hh => ?_
  unfold maxSet
  rw [bigSep_insert (Finset.notMem_singleton.mpr ?_), bigSep_singleton]
  · rfl
  · clear P; revert h; decide +kernel

omit [FloatOps F] in
theorem ownSet_eq : (Finset.univ.filter fun s : SemLoc sig => use s ≠ .none ∧ use s ≠ .bar)
    = credSet ∪ ((hopsSet true ∪ hopsSet false) ∪ maxsSet) := by decide +kernel

omit [FloatOps F] in
theorem own_families (P : SemLoc sig → sProp 𝕄) : (bigSep Finset.univ fun k : OI => P k.val) = ownFam P := by
  rw [bigSep_subtype (fun s : SemLoc sig => use s ≠ .none ∧ use s ≠ .bar) P, ownSet_eq, bigSep_union (by decide +kernel), bigSep_union (by decide +kernel),
    bigSep_union (by decide +kernel), hopFam_eq, hopFam_eq, maxFam_eq]
  unfold ownFam credSet
  rw [bigSep_insert (by decide), bigSep_singleton]
  rfl

omit [FloatOps F] in
theorem all_families (P : SemLoc sig → sProp 𝕄) : (bigSep Finset.univ fun k : CI => P k.val) = iprop(P (.reg barS) ∗ ownFam P) := by
  rw [← own_families, bigSep_subtype (fun s : SemLoc sig => use s ≠ .none ∧ use s ≠ .bar) P, bigSep_subtype (fun s : SemLoc sig => use s ≠ .none) P,
    show (Finset.univ.filter fun s : SemLoc sig => use s ≠ .none) = insert (SemLoc.reg barS) (Finset.univ.filter fun s : SemLoc sig => use s ≠ .none ∧ use s ≠ .bar)
      from by decide +kernel, bigSep_insert (by decide +kernel)]
  rfl

omit [FloatOps F] in
theorem ownFam_sep (P Q : SemLoc sig → sProp 𝕄) : ownFam (fun s => iprop(P s ∗ Q s)) = iprop(ownFam P ∗ ownFam Q) := by
  rw [← own_families, ← own_families, ← own_families]; exact bigSep_sep _ _ _

omit [FloatOps F] in
theorem hopFam_congr (d : Bool) (P : SemLoc sig → sProp 𝕄) (Q R : ℕ → sProp 𝕄) (hQ : ∀ h < hops d, P (.dma (sndS d h)) = Q h)
    (hR : ∀ h < hops d, P (.dma (rcvS d h)) = R h) : hopFam d P = bigSep (Finset.Ico 0 (hops d)) fun h => iprop(Q h ∗ R h) := by
  unfold hopFam
  refine bigSep_congr fun h hh => ?_
  rw [hQ h (Finset.mem_Ico.mp hh).2, hR h (Finset.mem_Ico.mp hh).2]

omit [FloatOps F] in
theorem maxFam_congr (P : SemLoc sig → sProp 𝕄) (Q R : ℕ → sProp 𝕄) (hQ : ∀ r < 5, P (.dma (asndS r)) = Q r)
    (hR : ∀ r < 5, P (.dma (arcvS r)) = R r) : maxFam P = bigSep (Finset.Ico 0 5) fun h => iprop(Q h ∗ R h) := by
  unfold maxFam
  refine bigSep_congr fun h hh => ?_
  rw [hQ h (Finset.mem_Ico.mp hh).2, hR h (Finset.mem_Ico.mp hh).2]

end Cert.RingProof

end
-- ==== Proof.Slots.lean ====
/-
# The scratch buffers as slots

A scratch buffer held whole is its slots held one by one, and the other way round.
-/
module

public import proofs.«01_k».proof.Proof.Families
public import Idealize.ShloMosaic.Lib.Ring.FamCut

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem free_eq {s : Shape} {e : EltTy} (c : Dev nD) (M : Memref sig .tc .vmem s e) :
    (free c M : sProp 𝕄) ⊣⊢ iprop(∃ f : Buf (Elt F) (M.view.loc (c : Thread nD τ)), M.view.loc (c : Thread nD τ) ↦[M.view.set]{fullShare} f) := by
  constructor
  · unfold free holds
    iintro ⟨%x, H⟩; iexists _; iexact H
  · unfold free
    iintro ⟨%f, H⟩
    iexists M.view.read (Elt F) f
    rw [← holds_read]; iexact H

def ringSet (d : Bool) (b : Fin 8) : Finset (S8x128x4096.Idx) := (Rect.unit (s := S8x128x4096) (slotOff b.val) S1x128x4096.size (slot_inb b.val)).set
def maxesSet (b : Fin 6) : Finset (S6x8x128.Idx) := (Rect.unit (s := S6x8x128) ![b.val % 6, 0, 0] S1x8x128.size (aslot_inb b.val)).set

theorem ringSet_disjoint (d : Bool) (b b' : Fin 8) (h : b ≠ b') : Disjoint (ringSet d b) (ringSet d b') :=
  Rect.disjoint_of_separated (Rect.unit (s := S8x128x4096) (slotOff b.val) S1x128x4096.size (slot_inb b.val)) (Rect.unit (s := S8x128x4096) (slotOff b'.val) S1x128x4096.size (slot_inb b'.val)) (0 : Fin 3) (by
    have h1 : b.val ≠ b'.val := fun e => h (Fin.ext e)
    have := b.isLt; have := b'.isLt
    show (1 = 0 ∨ b.val % 8 + 1 * (1 - 1) < b'.val % 8) ∨ (1 = 0 ∨ b'.val % 8 + 1 * (1 - 1) < b.val % 8)
    omega)

theorem maxesSet_disjoint (b b' : Fin 6) (h : b ≠ b') : Disjoint (maxesSet b) (maxesSet b') :=
  Rect.disjoint_of_separated (Rect.unit (s := S6x8x128) ![b.val % 6, 0, 0] S1x8x128.size (aslot_inb b.val)) (Rect.unit (s := S6x8x128) ![b'.val % 6, 0, 0] S1x8x128.size (aslot_inb b'.val)) (0 : Fin 3) (by
    have h1 : b.val ≠ b'.val := fun e => h (Fin.ext e)
    have := b.isLt; have := b'.isLt
    show (1 = 0 ∨ b.val % 6 + 1 * (1 - 1) < b'.val % 6) ∨ (1 = 0 ∨ b'.val % 6 + 1 * (1 - 1) < b.val % 6)
    omega)

theorem bigSep_fin_Ico {n : ℕ} (P : ℕ → sProp 𝕄) : (bigSep Finset.univ fun b : Fin n => P b.val) = bigSep (Finset.Ico 0 n) P := by
  rw [show Finset.Ico 0 n = Finset.univ.map (Fin.valEmbedding (n := n)) from by
    ext x; simp only [Finset.mem_Ico, Finset.mem_map, Finset.mem_univ, true_and, Fin.valEmbedding_apply]
    exact ⟨fun h => ⟨⟨x, h.2⟩, rfl⟩, fun ⟨b, hb⟩ => hb ▸ ⟨Nat.zero_le _, b.isLt⟩⟩, bigSep_map]
  rfl

/-! ## The buffers -/

/-- What the slots leave of a ring's buffer, -/
def ringRest (d : Bool) (c : Dev nD) : sProp 𝕄 :=
  iprop(∃ f : Buf (Elt F) ((ringM d).view.loc (c : Thread nD τ)), (ringM d).view.loc (c : Thread nD τ) ↦[Ring.restOf (ℓ := (ringM d).view.loc (c : Thread nD τ)) (fun b : Fin 8 => (slot d b.val).view.set)]{fullShare} f)
/-- and of the buffer of maxima. -/
def maxesRest (c : Dev nD) : sProp 𝕄 :=
  iprop(∃ f : Buf (Elt F) (aM.view.loc (c : Thread nD τ)), aM.view.loc (c : Thread nD τ) ↦[Ring.restOf (ℓ := aM.view.loc (c : Thread nD τ)) (fun b : Fin 6 => (aslot b.val).view.set)]{fullShare} f)

theorem slot_set (d : Bool) (b b' : Fin 8) (h : b ≠ b') : Disjoint (slot d b.val).view.set (slot d b'.val).view.set := by
  cases d
  · have e (b : Fin 8) : (slot false b.val).view.set = ringSet false b := (View.set_reshape _ _).trans (View.set_slice_whole cc0_scratch1 _)
    exact (e b).symm ▸ (e b').symm ▸ ringSet_disjoint false b b' h
  · have e (b : Fin 8) : (slot true b.val).view.set = ringSet true b := (View.set_reshape _ _).trans (View.set_slice_whole cc0_scratch0 _)
    exact (e b).symm ▸ (e b').symm ▸ ringSet_disjoint true b b' h

theorem aslot_set (b b' : Fin 6) (h : b ≠ b') : Disjoint (aslot b.val).view.set (aslot b'.val).view.set := by
  have e (b : Fin 6) : maxesSet b = (aslot b.val).view.set := ((View.set_reshape _ _).trans (View.set_slice_whole _ _)).symm
  rw [← e, ← e]; exact maxesSet_disjoint b b' h

theorem ring_cut (d : Bool) (c : Dev nD) :
    iprop(∃ f : Buf (Elt F) ((ringM d).view.loc (c : Thread nD τ)), (ringM d).view.loc (c : Thread nD τ) ↦{fullShare} f) ⊢ (iprop(frees d 0 8 c ∗ ringRest d c) : sProp 𝕄) := by
  refine (Ring.fam_split_ex (ℓ := (ringM d).view.loc (c : Thread nD τ)) (fun b : Fin 8 => (slot d b.val).view.set) (fun b b' h => slot_set d b b' h)).trans ?_
  unfold frees ringRest
  rw [← bigSep_fin_Ico]
  exact sep_mono_left (bigSep_mono fun b _ => (free_eq c (slot d b.val)).2)

theorem ring_join (d : Bool) (c : Dev nD) :
    (iprop(frees d 0 8 c ∗ ringRest d c) : sProp 𝕄) ⊢ iprop(∃ f : Buf (Elt F) ((ringM d).view.loc (c : Thread nD τ)), (ringM d).view.loc (c : Thread nD τ) ↦{fullShare} f) := by
  refine .trans ?_ (Ring.fam_join (ℓ := (ringM d).view.loc (c : Thread nD τ)) (fun b : Fin 8 => (slot d b.val).view.set) (fun b b' h => slot_set d b b' h) (fun _ => default))
  unfold frees ringRest
  rw [← bigSep_fin_Ico]
  exact sep_mono_left (bigSep_mono fun b _ => (free_eq c (slot d b.val)).1)

theorem maxes_cut (c : Dev nD) :
    iprop(∃ f : Buf (Elt F) (aM.view.loc (c : Thread nD τ)), aM.view.loc (c : Thread nD τ) ↦{fullShare} f) ⊢ (iprop(aslots c ∗ maxesRest c) : sProp 𝕄) := by
  refine (Ring.fam_split_ex (ℓ := aM.view.loc (c : Thread nD τ)) (fun b : Fin 6 => (aslot b.val).view.set) (fun b b' h => aslot_set b b' h)).trans ?_
  unfold aslots maxesRest
  rw [← bigSep_fin_Ico]
  exact sep_mono_left (bigSep_mono fun b _ => (free_eq c (aslot b.val)).2)

theorem maxes_join (c : Dev nD) :
    (iprop(aslots c ∗ maxesRest c) : sProp 𝕄) ⊢ iprop(∃ f : Buf (Elt F) (aM.view.loc (c : Thread nD τ)), aM.view.loc (c : Thread nD τ) ↦{fullShare} f) := by
  refine .trans ?_ (Ring.fam_join (ℓ := aM.view.loc (c : Thread nD τ)) (fun b : Fin 6 => (aslot b.val).view.set) (fun b b' h => aslot_set b b' h) (fun _ => default))
  unfold aslots maxesRest
  rw [← bigSep_fin_Ico]
  exact sep_mono_left (bigSep_mono fun b _ => (free_eq c (aslot b.val)).1)

/-- What the slots leave of the scratch buffers. -/
def rests (c : Dev nD) : sProp 𝕄 := iprop(ringRest true c ∗ ringRest false c ∗ maxesRest c)

theorem scratch_cut (c : Dev nD) : (Pipeline.scopedRest cfg0.spec c : sProp 𝕄) ⊢ iprop(scratch c ∗ rests c) := by
  rw [scopedRest0_eq]
  unfold scratch rests
  iintro ⟨H0, H1, H8⟩
  ihave R0 := (ring_cut (F := F) true c) $$ H0
  icases R0 with ⟨A0, B0⟩
  ihave R1 := (ring_cut (F := F) false c) $$ H1
  icases R1 with ⟨A1, B1⟩
  ihave R8 := (maxes_cut (F := F) c) $$ H8
  icases R8 with ⟨A8, B8⟩
  isplitl [A0 A1 A8]
  · isplitl [A0]; · iexact A0
    isplitl [A1] <;> iassumption
  isplitl [B0]; · iexact B0
  isplitl [B1] <;> iassumption

theorem scratch_join (c : Dev nD) : iprop(scratch c ∗ rests c) ⊢ (Pipeline.scopedRest cfg0.spec c : sProp 𝕄) := by
  rw [scopedRest0_eq]
  unfold scratch rests
  iintro ⟨⟨A0, A1, A8⟩, B0, B1, B8⟩
  isplitl [A0 B0]
  · iapply (ring_join (F := F) true c)
    isplitl [A0] <;> iassumption
  isplitl [A1 B1]
  · iapply (ring_join (F := F) false c)
    isplitl [A1] <;> iassumption
  iapply (maxes_join (F := F) c)
  isplitl [A8] <;> iassumption

end Cert.RingProof

end
-- ==== Proof.Deal.lean ====
/-
# Dealing the semaphores out

At the start every semaphore in use gets its schedule, its one position and the tokens of its duties. The position stays with
the owner. The tokens go to the devices that perform the duties: those of the barrier to the neighbours and partners, those of
an arriving semaphore to the device the copy comes from, those of a credit semaphore to the device that gives the credits.
-/
module

public import proofs.«01_k».proof.Proof.Slots

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Deal

variable (X : Dev nD → Vec F S128x4096 .f32) (W : Dev nD → Vec F S4096x256 .f32)

theorem kcell_injective : Function.Injective (kcell : Dev nD × CI → GSem nD τ sig) := by
  rintro ⟨c, k⟩ ⟨c', k'⟩ h
  have h1 : c = c' := congrArg (fun g : GSem nD τ sig => g.1.1) h
  have h2 : k.val = k'.val := congrArg Prod.snd h
  rw [h1, Subtype.ext h2]

/-- The cells in use, -/
def usedCells : Finset (GSem nD τ sig) := Finset.univ.map ⟨kcell, kcell_injective⟩
/-- the duties of one, -/
def tokSet (g : GSem nD τ sig) : Finset (GSem nD τ sig × ℕ × ℕ) :=
  (dutiesOf (use g.2)).map ⟨fun j => (g, 0, j), fun _ _ h => congrArg (fun x : GSem nD τ sig × ℕ × ℕ => x.2.2) h⟩
/-- and of all. -/
def usedToks : Finset (GSem nD τ sig × ℕ × ℕ) := usedCells.biUnion tokSet

theorem tokSet_disjoint (g g' : GSem nD τ sig) (h : g ≠ g') : Disjoint (tokSet g) (tokSet g') := by
  rw [Finset.disjoint_left]
  intro x hx hx'
  obtain ⟨j, -, rfl⟩ := Finset.mem_map.mp hx
  obtain ⟨j', -, e⟩ := Finset.mem_map.mp hx'
  exact h (congrArg (fun x : GSem nD τ sig × ℕ × ℕ => x.1) e).symm

/-- The tokens of one semaphore's duties. -/
def toksOf (g : GSem nD τ sig) : sProp 𝕄 := bigSep (dutiesOf (use g.2)) fun j => dutyTok ER g 0 j

/-- What device `c` is dealt first. -/
def dealt (c : Dev nD) : sProp 𝕄 :=
  iprop((bigSep Finset.univ fun k : CI => roundState ER (sched X W) (kcell (c, k)) 0)
    ∗ ((bigSep Finset.univ fun k : CI => atPos ER (kcell (c, k)) 0 ∅ 0) ∗ (bigSep Finset.univ fun k : CI => reached ER (kcell (c, k)) 0))
    ∗ bigSep Finset.univ fun k : CI => toksOf (kcell (c, k)))

theorem deal : BI.own (ER (initOf usedCells usedToks)) ⊢ (|==> bigSep Finset.univ (dealt X W) : sProp 𝕄) := by
  have hX (P : GSem nD τ sig → sProp 𝕄) : bigSep usedCells P = bigSep Finset.univ fun c : Dev nD => bigSep Finset.univ fun k : CI => P (kcell (c, k)) := by
    unfold usedCells; rw [bigSep_map, bigSep_univ_prod]; rfl
  have hT : bigSep usedToks (fun x => (dutyTok ER x.1 x.2.1 x.2.2 : sProp 𝕄)) = bigSep Finset.univ fun c : Dev nD => bigSep Finset.univ fun k : CI => toksOf (kcell (c, k)) := by
    rw [← hX toksOf]
    unfold usedToks
    rw [bigSep_biUnion_eq _ _ _ fun g _ g' _ h => tokSet_disjoint g g' h]
    refine bigSep_congr fun g _ => ?_
    unfold tokSet toksOf
    rw [bigSep_map]; rfl
  iintro H
  imod (Rounds.fund ER (sched X W) usedCells usedToks) $$ H with ⟨Hst, Hr, Hat, Htok⟩
  imodintro
  ihave Hst' := (Entails.of_eq (hX fun g => roundState ER (sched X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt
  rw [bigs_sep, bigs_sep, bigs_sep]
  isplitl [Hst']; · iexact Hst'
  isplitl [Hat' Hr']
  · isplitl [Hat'] <;> iassumption
  iexact Htok'

/-! ## The tokens travel -/

/-- The tokens of device `c`'s semaphores, -/
def dues (c : Dev nD) : sProp 𝕄 :=
  iprop((bigSep (Finset.Ico 0 7) fun i => dutyTok ER (barC c) 0 i)
    ∗ ((bigSep (Finset.Ico 0 (creds true)) fun j => dutyTok ER (credC true c) 0 j) ∗ (bigSep (Finset.Ico 0 (creds false)) fun j => dutyTok ER (credC false c) 0 j))
    ∗ ((bigSep (Finset.Ico 0 (hops true)) fun h => iprop(dutyTok ER (sndC true h c) 0 0 ∗ dutyTok ER (rcvC true h c) 0 0))
      ∗ (bigSep (Finset.Ico 0 (hops false)) fun h => iprop(dutyTok ER (sndC false h c) 0 0 ∗ dutyTok ER (rcvC false h c) 0 0)))
    ∗ (bigSep (Finset.Ico 0 5) fun r => iprop(dutyTok ER (asndC r c) 0 0 ∗ dutyTok ER (arcvC r c) 0 0)))
/-- and of the duties device `c` performs. -/
def pays (c : Dev nD) : sProp 𝕄 :=
  iprop((bigSep (Finset.Ico 0 7) fun i => dutyTok ER (barC (barTo i c)) 0 i)
    ∗ (credGives true 0 c ∗ credGives false 0 c)
    ∗ ((bigSep (Finset.Ico 0 (hops true)) fun h => iprop(dutyTok ER (sndC true h c) 0 0 ∗ dutyTok ER (rcvC true h (nxt true c)) 0 0))
      ∗ (bigSep (Finset.Ico 0 (hops false)) fun h => iprop(dutyTok ER (sndC false h c) 0 0 ∗ dutyTok ER (rcvC false h (nxt false c)) 0 0)))
    ∗ (bigSep (Finset.Ico 0 5) fun r => iprop(dutyTok ER (asndC r c) 0 0 ∗ dutyTok ER (arcvC r (pal r c)) 0 0)))

theorem toks_dues (c : Dev nD) : (bigSep Finset.univ fun k : CI => (toksOf (kcell (c, k)) : sProp 𝕄)) = dues c := by
  have one (s : SemLoc sig) {u : Use} (hu : use s = u) (h1 : dutiesOf u = {0}) : (toksOf (cell c s) : sProp 𝕄) = dutyTok ER (cell c s) 0 0 := by
    unfold toksOf; show bigSep (dutiesOf (use s)) _ = _; rw [hu, h1, bigSep_singleton]
  have many (s : SemLoc sig) {u : Use} (n : ℕ) (hu : use s = u) (h1 : dutiesOf u = Finset.range n) :
      (toksOf (cell c s) : sProp 𝕄) = bigSep (Finset.Ico 0 n) fun j => dutyTok ER (cell c s) 0 j := by
    unfold toksOf; show bigSep (dutiesOf (use s)) _ = _; rw [hu, h1, Finset.range_eq_Ico]
  refine (all_families fun s => (toksOf (cell c s) : sProp 𝕄)).trans ?_
  unfold ownFam dues
  dsimp only
  rw [many _ 7 use_bar rfl, many _ (creds true) (use_credit true) rfl, many _ (creds false) (use_credit false) rfl,
    hopFam_congr true _ _ _ (fun h hh => one _ (use_snd hh) rfl) (fun h hh => one _ (use_rcv hh) rfl),
    hopFam_congr false _ _ _ (fun h hh => one _ (use_snd hh) rfl) (fun h hh => one _ (use_rcv hh) rfl),
    maxFam_congr _ _ _ (fun h hh => one _ (use_asnd hh) rfl) (fun h hh => one _ (use_arcv hh) rfl)]

/-- Handing something numbered around, number `i` along the permutation `e i`. -/
theorem hand_around (s : Finset ℕ) (e : ℕ → Dev nD ≃ Dev nD) (P : Dev nD → ℕ → sProp 𝕄) :
    (bigSep Finset.univ fun c => bigSep s (P c)) = bigSep Finset.univ fun c => bigSep s fun i => P (e i c) i := by
  induction s using Finset.induction_on with
  | empty => simp only [bigSep_empty]
  | insert i s hi ih =>
    have ins (Q : ℕ → sProp 𝕄) : bigSep (insert i s) Q = iprop(Q i ∗ bigSep s Q) := bigSep_insert hi
    simp only [ins]
    rw [bigs_sep, bigs_sep, ih, bigSep_univ_equiv (e i) fun c => P c i]

def barE (i : ℕ) : Dev nD ≃ Dev nD := ⟨barTo i, barFrom i, barFrom_to i, barTo_from i⟩

theorem travel : (bigSep Finset.univ fun c : Dev nD => (dues c : sProp 𝕄)) ⊢ bigSep Finset.univ fun c => pays c := by
  refine Entails.of_eq ?_
  unfold dues pays credGives
  simp only [bigs_sep]
  rw [hand_around (Finset.Ico 0 7) barE fun c i => dutyTok ER (barC c) 0 i,
    hand_around (Finset.Ico 0 (creds true)) (fun _ => (around true).symm) fun c j => dutyTok ER (credC true c) 0 j,
    hand_around (Finset.Ico 0 (creds false)) (fun _ => (around false).symm) fun c j => dutyTok ER (credC false c) 0 j,
    hand_around (Finset.Ico 0 (hops true)) (fun _ => around true) fun c h => dutyTok ER (rcvC true h c) 0 0,
    hand_around (Finset.Ico 0 (hops false)) (fun _ => around false) fun c h => dutyTok ER (rcvC false h c) 0 0,
    hand_around (Finset.Ico 0 5) across fun c r => dutyTok ER (arcvC r c) 0 0]
  rfl

/-! ## What the body starts from -/

/-- The positions of device `c`'s semaphores. -/
def posts (c : Dev nD) : sProp 𝕄 :=
  iprop(atPos ER (barC c) 0 ∅ 0
    ∗ (atPos ER (credC true c) 0 ∅ 0 ∗ atPos ER (credC false c) 0 ∅ 0)
    ∗ ((bigSep (Finset.Ico 0 (hops true)) fun h => iprop(atPos ER (sndC true h c) 0 ∅ 0 ∗ atPos ER (rcvC true h c) 0 ∅ 0))
      ∗ (bigSep (Finset.Ico 0 (hops false)) fun h => iprop(atPos ER (sndC false h c) 0 ∅ 0 ∗ atPos ER (rcvC false h c) 0 ∅ 0)))
    ∗ (bigSep (Finset.Ico 0 5) fun r => iprop(atPos ER (asndC r c) 0 ∅ 0 ∗ atPos ER (arcvC r c) 0 ∅ 0)))

theorem pos_posts (c : Dev nD) : (bigSep Finset.univ fun k : CI => (atPos ER (kcell (c, k)) 0 ∅ 0 : sProp 𝕄)) = posts c := by
  exact (all_families fun s => (atPos ER (cell c s) 0 ∅ 0 : sProp 𝕄)).trans rfl

theorem ghosts_intro (c : Dev nD) : iprop(posts c ∗ pays c ∗ startCred c) ⊢ (ghosts c : sProp 𝕄) := by
  unfold posts pays startCred ghosts hopTodo maxTodo hopKit maxKit credWaits creditAt
  rw [if_pos (by decide), if_pos (by decide)]
  simp only [bigs_sep]
  iintro ⟨⟨Pb, ⟨Pk, Pl⟩, ⟨⟨Ps, Pr⟩, ⟨Qs, Qr⟩⟩, ⟨Pa, Pc⟩⟩, ⟨Tb, ⟨Tk, Tl⟩, ⟨⟨Ts, Tr⟩, ⟨Us, Ur⟩⟩, ⟨Ta, Tc⟩⟩, Cb, Cr, Cl, Ck, Cm, Ca⟩
  isplitl [Tb]; · iexact Tb
  isplitl [Cb]; · iexact Cb
  isplitl [Pb]; · iexact Pb
  isplitl [Ps Pr Cr Ts Tr]
  · isplitl [Ps]; · iexact Ps
    isplitl [Pr]; · iexact Pr
    isplitl [Cr]; · iexact Cr
    isplitl [Ts] <;> iassumption
  isplitl [Qs Qr Cl Us Ur]
  · isplitl [Qs]; · iexact Qs
    isplitl [Qr]; · iexact Qr
    isplitl [Cl]; · iexact Cl
    isplitl [Us] <;> iassumption
  isplitl [Ck Pk Tk]
  · isplitr [Tk]
    · isplitl [Ck]; · iexact Ck
      iexists ∅; iexact Pk
    iexact Tk
  isplitl [Cm Pl Tl]
  · isplitr [Tl]
    · isplitl [Cm]; · iexact Cm
      iexists ∅; iexact Pl
    iexact Tl
  isplitl [Pa]; · iexact Pa
  isplitl [Pc]; · iexact Pc
  isplitl [Ca]; · iexact Ca
  isplitl [Ta] <;> iassumption

theorem zeros_eq (c : Dev nD) : (zeros c : sProp 𝕄) ⊢ iprop(semVal (barC c) 0 ∗ bigSep Finset.univ fun k : OI => semVal (cell c k.val) 0) := by
  have e : (bigSep Finset.univ fun k : OI => (semVal (cell c k.val) 0 : sProp 𝕄)) = ownFam fun s => semVal (cell c s) 0 :=
    own_families fun s => semVal (cell c s) 0
  rw [e]
  unfold zeros ownFam hopFam maxFam hopDone
  iintro ⟨B, HR, HL, KR, KL, M⟩
  isplitl [B]; · iexact B
  isplitl [KR KL]
  · isplitl [KR] <;> iassumption
  isplitl [HR HL]
  · isplitl [HR]; · iexact HR
    iexact HL
  iexact M

end Deal

end Cert.RingProof

end
-- ==== Proof.Launch.lean ====
/-
# The launch

The run of all thirty-two devices from the launch: the semaphores of every device become cells, the tokens are dealt out, and
each device's kernel, proved in `Body`, runs from what it is dealt. Every execution ends, leaves each result array at
`result` of the arguments, the arguments as they were and every semaphore at zero.
-/
module

public import proofs.«01_k».proof.Proof.Deal
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## From semaphores to cells -/

section Glob

variable (X : Dev nD → Vec F S128x4096 .f32) (W : Dev nD → Vec F S4096x256 .f32)

abbrev osem : OI → SemLoc sig := fun k => k.val

theorem ownSemFacts : Pipeline.OwnSemFacts cfg0.spec osem where
  isScoped := by
    have h : ∀ s : SemLoc sig, use s ≠ .none ∧ use s ≠ .bar → s.isScoped .tc = true := by decide
    exact fun k => h k.val k.property
  inj := Subtype.val_injective
  disj := by
    have h : ∀ (w : Fin 3) (s : Fin (spec0 w).nbuf), use (.dma ((spec0 w).sem s)) = .none := by decide
    exact fun k w s e => k.property.1 ((congrArg use e).trans (h w s))

theorem unscoped_bar (c : Dev nD) : (unscopedSems0 c : sProp 𝕄) = semVal (barC c) 0 := by
  unfold unscopedSems0; rw [bigSep_eq_bigSepL_of_eq [SemLoc.reg barS] (by decide) (by decide)]; rfl

theorem all_sems (c : Dev nD) :
    iprop(Pipeline.ownSems0 (Ix := ℕ) (Name := ℕ) (U := UU) (Lvl := ℕ) (Val := Elt F) (τ := τ) osem c ∗ unscopedSems0 c)
      ⊢ (bigSep Finset.univ fun k : CI => semVal (kcell (c, k)) 0 : sProp 𝕄) := by
  have e1 : (bigSep Finset.univ fun k : CI => semVal (kcell (c, k)) 0 : sProp 𝕄) = iprop(semVal (barC c) 0 ∗ ownFam fun s => semVal (cell c s) 0) :=
    all_families fun s => semVal (cell c s) 0
  have e2 : (Pipeline.ownSems0 (Ix := ℕ) (Name := ℕ) (U := UU) (Lvl := ℕ) (Val := Elt F) (τ := τ) osem c : sProp 𝕄) = ownFam fun s => semVal (cell c s) 0 :=
    own_families fun s => semVal (cell c s) 0
  rw [e1, e2, unscoped_bar]
  iintro ⟨H1, H2⟩
  isplitl [H2] <;> iassumption

/-- What device `c` has once its cells are set up. -/
def setUp (c : Dev nD) : sProp 𝕄 :=
  iprop((bigSep Finset.univ fun k : CI => iprop(∃ κ : ℕ, cellInv ER (sched X W) κ (kcell (c, k))))
    ∗ ((bigSep Finset.univ fun k : CI => atPos ER (kcell (c, k)) 0 ∅ 0) ∗ (bigSep Finset.univ fun k : CI => reached ER (kcell (c, k)) 0))
    ∗ bigSep Finset.univ fun k : CI => toksOf (kcell (c, k)))

theorem set_up (c : Dev nD) :
    iprop(Pipeline.ownSems0 (Ix := ℕ) (Name := ℕ) (U := UU) (Lvl := ℕ) (Val := Elt F) (τ := τ) osem c ∗ unscopedSems0 c ∗ dealt X W c)
      ⊢ |={Set.univ}=> setUp X W c := by
  unfold dealt setUp
  iintro ⟨Ho, Hu, Hst, Hat, Ht⟩
  ihave Hv := (all_sems (F := F) c) $$ [Ho Hu]
  · isplitl [Ho] <;> iassumption
  imod (show iprop((bigSep Finset.univ fun k : CI => semVal (kcell (c, k)) 0) ∗ bigSep Finset.univ fun k : CI => roundState ER (sched X W) (kcell (c, k)) 0)
      ⊢ (|={Set.univ}=> bigSep Finset.univ fun k : CI => iprop(∃ κ : ℕ, cellInv ER (sched X W) κ (kcell (c, k))) : sProp 𝕄) from by
        rw [← bigs_sep]
        exact (bigSep_mono fun k _ => (Rounds.body_intro ER (sched X W) (kcell (c, k))).trans inv_alloc).trans (bigSep_fupd _ _)) $$ [Hv Hst] with Hinv
  · isplitl [Hv] <;> iassumption
  imodintro
  isplitl [Hinv]; · iexact Hinv
  isplitl [Hat]; · iexact Hat
  iexact Ht

/-- What every device knows of all the cells, -/
def records (K : Dev nD × CI → ℕ) : sProp 𝕄 :=
  iprop((bigSep Finset.univ fun ck : Dev nD × CI => cellInv ER (sched X W) (K ck) (kcell ck))
    ∗ bigSep Finset.univ fun ck : Dev nD × CI => reached ER (kcell ck) 0)

instance records_persistent (K : Dev nD × CI → ℕ) : BI.Persistent (records X W K) := by unfold records; infer_instance

/-- and what device `c` has of its own. -/
def share (c : Dev nD) : sProp 𝕄 := iprop(∃ K, records X W K ∗ posts c ∗ pays c)

theorem share_intro (K : Dev nD × CI → ℕ) (c : Dev nD) : iprop(records X W K ∗ posts c ∗ pays c) ⊢ share X W c := by
  unfold share
  iintro H
  iexists K
  iexact H

theorem share_out : (bigSep Finset.univ fun c : Dev nD => setUp X W c) ⊢ bigSep Finset.univ (share X W) := by
  unfold setUp
  simp only [pos_posts, toks_dues]
  rw [bigs_sep, bigs_sep, bigs_sep,
    ← bigSep_univ_prod (fun ck : Dev nD × CI => iprop(∃ κ : ℕ, cellInv ER (sched X W) κ (kcell ck))),
    ← bigSep_univ_prod (fun ck : Dev nD × CI => (reached ER (kcell ck) 0 : sProp 𝕄))]
  iintro ⟨HI, ⟨Hat, #HR⟩, Ht⟩
  ihave HK := (BI.bigSep_exists_pi Finset.univ (fun (ck : Dev nD × CI) (κ : ℕ) => (cellInv ER (sched X W) κ (kcell ck) : sProp 𝕄))) $$ HI
  icases HK with ⟨%K, #HI⟩
  ihave Hp := (travel (F := F)) $$ Ht
  have fin : iprop(records X W K ∗ (bigSep Finset.univ fun c : Dev nD => posts (F := F) c) ∗ (bigSep Finset.univ fun c : Dev nD => pays (F := F) c))
      ⊢ bigSep Finset.univ (share X W) := by
    rw [← bigs_sep]
    refine (sep_mono_left (BI.bigSep_of_persistent (Finset.univ : Finset (Dev nD)) (records X W K))).trans ?_
    rw [← bigs_sep]
    exact bigSep_mono fun c _ => share_intro X W K c
  iapply fin
  isplitr
  · unfold records
    isplitl <;> iassumption
  isplitl [Hat] <;> iassumption

theorem glob :
    (bigSep Finset.univ fun c => iprop(Pipeline.ownSems0 (Ix := ℕ) (Name := ℕ) (U := UU) (Lvl := ℕ) (Val := Elt F) (τ := τ) osem c ∗ unscopedSems0 c ∗ dealt X W c) : sProp 𝕄)
      ⊢ |={Set.univ}=> bigSep Finset.univ (share X W) :=
  ((bigSep_mono fun c _ => set_up X W c).trans (bigSep_fupd _ _)).trans (BI.fupd_mono (share_out X W))

end Glob

/-! ## What the kernel is run on -/

variable (m : (l : Loc nD τ sig) → Buf (Elt F) l) (ρ : Dev nD → PrngReg)

def s₀ : MemSt nD τ sig (Elt F) := ⟨m, fun _ => 0, ρ⟩

/-- Device `c`'s arguments. -/
def xArg (c : Dev nD) : Vec F S128x4096 .f32 := m ((c : Thread nD τ).loc main_arg0)
def wArg (c : Dev nD) : Vec F S4096x256 .f32 := m ((c : Thread nD τ).loc main_arg1)

/-- What the kernel starts from and ends with, besides its windows. -/
def Φ₀ (c : Dev nD) : sProp 𝕄 := iprop((∃ K, known (xArg m) (wArg m) K ∗ ghosts c) ∗ scratch c ∗ rests c)
def Φ₁ (c : Dev nD) : sProp 𝕄 := iprop(zeros c ∗ scratch c ∗ rests c)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xArg m c
    | ⟨1, _⟩ => wArg m c
    | ⟨2, _⟩ => result (xArg m) (wArg m) c
  Φ t := match t with
    | ⟨0, _⟩ => Φ₀ m c
    | ⟨_ + 1, _⟩ => Φ₁ c
  q _ := fullShare
  owed t := match t with
    | ⟨0, _⟩ => owed c 0 0 0 0 0 0
    | ⟨_ + 1, _⟩ => 0

theorem share_full (c : Dev nD) (w : Fin cfg0.W) : (dats m ρ 0 c).share w = fullShare := by unfold Pipeline.Dat.share; split <;> rfl

theorem owns_whole (c : Dev nD) (b : Ref sig .tc) (f : b.ty.Contents (Elt F)) :
    (owns (Ix := ℕ) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

/-- The window's one block is the whole argument. -/
theorem first_x (c : Dev nD) (d) : (dats m ρ 0 c).before (0 : Fin 3) t0_0 d = xArg m c := by
  have hz : (fun a => (win0_0.index (0 : Fin 1)) a * main_arg0.ty.shape.size a) = fun _ => 0 := funext fun a => by fin_cases a <;> decide
  unfold Pipeline.Dat.before
  rw [if_pos (fetch0_0 t0_0)]
  exact Memref.read_access_unit_zero (Elt F) main_arg0 hz (fun a => by fin_cases a <;> decide) (m ((c : Thread nD τ).loc main_arg0))

theorem first_w (c : Dev nD) (d) : (dats m ρ 0 c).before (1 : Fin 3) t0_0 d = wArg m c := by
  have hz : (fun a => (win0_1.index (0 : Fin 1)) a * main_arg1.ty.shape.size a) = fun _ => 0 := funext fun a => by fin_cases a <;> decide
  unfold Pipeline.Dat.before
  rw [if_pos (fetch0_1 t0_0)]
  exact Memref.read_access_unit_zero (Elt F) main_arg1 hz (fun a => by fin_cases a <;> decide) (m ((c : Thread nD τ).loc main_arg1))

abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt 0 t0_0.succ
    ∗ stg c cc0_stg0_0 (xArg m c) ∗ stg c cc0_stg1_0 (wArg m c) ∗ stg c cc0_stg2_0 (result (xArg m) (wArg m) c))

theorem body_runs (c : Dev nD) : bodyPre m ρ c ⊢ runs c (onBufs (cc0_body (F := F))) (fun _ => bodyPost m ρ c) := by
  unfold bodyPre Φ₀
  simp only [first_x, first_w]
  iintro ⟨⟨⟨%K, Hk, Hg⟩, Hs, Hr⟩, Ho, ⟨%d0, %g0, %h0, Hx⟩, ⟨%d1, %g1, %h1, Hw⟩, ⟨%d2, %g2, %h2, Hy⟩⟩
  subst h0
  subst h1
  unfold Pipeline.Dat.owesAt Pipeline.owesWithin
  icases Ho with ⟨%V, %hV, HO⟩
  iapply (wp_body (xArg m) (wArg m) K c (Q := fun _ => bodyPost m ρ c)) $$ [Hk Hg Hs HO Hx Hw Hy]
  · isplitl [Hk]; · iexact Hk
    isplitl [HO]; · unfold owing; iexists V; iexact HO
    isplitl [Hg]; · iexact Hg
    isplitl [Hs]; · iexact Hs
    isplitl [Hx]; · rw [holds_x]; iexact Hx
    isplitl [Hw]; · rw [holds_w]; iexact Hw
    iexists g2; iexact Hy
  rw [holds_x, holds_w]
  unfold bodyPost Φ₁ owing
  iintro ⟨⟨%V', HO⟩, Hz, Hs, Hx, Hw, Hy⟩
  isplitl [Hz Hs Hr]
  · isplitl [Hz]; · iexact Hz
    isplitl [Hs] <;> iassumption
  isplitl [HO]
  · unfold Pipeline.Dat.owesAt Pipeline.owesWithin
    iexists V'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hy

theorem body_obligation (c : Dev nD) : Pipeline.BodyObligation (dats (F := F) m ρ 0 c) (defs₀ (F := F)) 𝒱₀ 0 Set.univ := fun t => by
  rw [fin_N0 t, bigSep_W0, bigSep_W0]
  simp only [owns_whole]
  show bodyPre m ρ c ⊢ runs c (onBufs (cc0_body (F := F))) (fun _ => bodyPost m ρ c)
  exact body_runs m ρ c

/-! ## The side conditions -/

theorem waits (c : Dev nD) : (levAts L lv : sProp 𝕄) ⊢ Pipeline.cellsWaits cfgs (dats m ρ) 0 0 c :=
  Pipeline.cellsWaits_intro cfgs (dats m ρ) 0 0 c fun w s t => by
    have hs : use (.dma ((cfg0.win w).sem s)) = .none := by
      have h : ∀ (w : Fin 3) (s : Fin (spec0 w).nbuf), use (.dma ((spec0 w).sem s)) = .none := by decide
      exact h w s
    rcases t with ⟨_ | n, ht⟩
    · exact mayWait c _ 0 0 0 0 0 0 0 hs (by decide) (by decide)
    · show _ ⊢ MayWait (c : Thread nD τ) _ 0 0
      rw [MayWait_zero]
      iintro -
      iempintro

theorem start_intro (c : Dev nD) :
    iprop(Pipeline.unscopedRestP Pipeline.Prefetch.none cfg0.spec c (fun b => m ((c : Thread nD τ).loc b)) ∗ levAts L lv
        ∗ Pipeline.launchCred (fun d => owed d 0 0 0 0 0 0) c ∗ prngReg c (ρ c) ∗ share (xArg m) (wArg m) c)
      ⊢ |={Set.univ}=> iprop((∃ K, known (xArg m) (wArg m) K ∗ ghosts (F := F) c) ∗ emp) := by
  unfold share records known
  iintro ⟨-, Hl, Hc, -, ⟨%K, ⟨Hi, Hr⟩, Hp, Ht⟩⟩
  ihave Hc := (startCred_intro (F := F) c) $$ Hc
  imodintro
  isplitl
  · iexists K
    isplitl [Hl Hi Hr]
    · isplitl [Hl]; · iexact Hl
      isplitl [Hi] <;> iassumption
    iapply (ghosts_intro (F := F) c)
    isplitl [Hp]; · iexact Hp
    isplitl [Ht] <;> iassumption
  · iempintro

theorem phi0_intro (c : Dev nD) :
    iprop((∃ K, known (xArg m) (wArg m) K ∗ ghosts (F := F) c) ∗ Pipeline.prefHeld Pipeline.Prefetch.none c (fun _ => fullShare.right) (fun k => k.elim0) ∗ Pipeline.scopedRest cfg0.spec c)
      ⊢ (dats m ρ 0 c).Φ 0 := by
  show _ ⊢ Φ₀ m c
  unfold Φ₀
  iintro ⟨Hs, -, Hr⟩
  isplitl [Hs]; · iexact Hs
  iapply (scratch_cut (F := F) c)
  iexact Hr

theorem phi1_exit (c : Dev nD) :
    (dats m ρ 0 c).Φ (Fin.last cfg0.N) ⊢ iprop(unscopedSems0 c ∗ Pipeline.ownSems0 osem c ∗ Pipeline.scopedRest cfg0.spec c) := by
  show Φ₁ c ⊢ _
  unfold Φ₁
  rw [unscoped_bar]
  iintro ⟨Hz, Hs⟩
  ihave Hz := (zeros_eq (F := F) c) $$ Hz
  icases Hz with ⟨Hb, Ho⟩
  have e : (bigSep Finset.univ fun k : OI => (semVal (cell c k.val) 0 : sProp 𝕄)) = Pipeline.ownSems0 osem c := rfl
  isplitl [Hb]; · iexact Hb
  isplitl [Ho]; · iapply (Entails.of_eq e); iexact Ho
  iapply (scratch_join (F := F) c)
  iexact Hs

/-! ## The run -/

def u₀ : UU :=
  (initOf (Pipeline.cells cfgs cellOf_inj) (Pipeline.launchToks cfgs cellOf_inj), initOf usedCells usedToks)

def finalA (c : Dev nD) (w : Fin cfg0.W) : Buf (Elt F) ((cfg0.win w).arr.view.loc (c : Thread nD τ)) := (dats m ρ 0 c).arrAt w cfg0.N

/-- Every array of a window ends at its final contents. -/
def ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution of the thirty-two devices from a memory with zero counters ends, with the arrays at their
final contents and every counter at zero. -/
theorem run_main : θ_run defs (onTc (τ := τ) (main (F := F))) (s₀ m ρ) (fun r => ends m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_full m ρ) (hdistinct := winFacts0.arr_inj)
    (O₀ := fun d => owed d 0 0 0 0 0 0) (howed₀ := fun _ => rfl) (howedN := fun _ => rfl)
    (L := L) (lv := lv) (hL := L_of_ne) (hwaits := waits m ρ)
    (G := dealt (xArg m) (wArg m)) (G' := share (xArg m) (wArg m)) (u₀ := u₀)
    (hu₀ := by
      unfold u₀
      iintro Hu
      ihave H := (ownU_pair _ _) $$ Hu
      icases H with ⟨HP, HX⟩
      imod (deal (xArg m) (wArg m)) $$ HX with HG
      imodintro
      isplitl [HP] <;> iassumption)
    (hglob := glob (xArg m) (wArg m))
    (hA := fun _ _ => rfl) (hpf := fun _ k => k.elim0)
    (X := fun c => iprop(∃ K, known (xArg m) (wArg m) K ∗ ghosts (F := F) c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they were, -/
theorem final_x (c : Dev nD) : finalA m ρ c (0 : Fin 3) = m ((c : Thread nD τ).loc main_arg0) :=
  (dats (F := F) m ρ 0 c).arrAt_in (0 : Fin 3) rfl _
theorem final_w (c : Dev nD) : finalA m ρ c (1 : Fin 3) = m ((c : Thread nD τ).loc main_arg1) :=
  (dats (F := F) m ρ 0 c).arrAt_in (1 : Fin 3) rfl _

/-- and the result array at the kernel's result. -/
theorem final_o (c : Dev nD) : finalA m ρ c (2 : Fin 3) = result (xArg m) (wArg m) c := by
  have hz : (fun a => (win0_2.index (0 : Fin 1)) a * main_v1.ty.shape.size a) = fun _ => 0 := funext fun a => by fin_cases a <;> decide
  have hr := fun f => Memref.read_access_unit_zero (Elt F) main_v1 hz (fun a => by fin_cases a <;> decide) f
  have h : (win0_2.blk (0 : Fin 1)).view.read (Elt F) (finalA m ρ c (2 : Fin 3)) = result (xArg m) (wArg m) c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from flush0_2 _, if_pos rfl]
    exact View.read_write_univ _ _
  exact (hr _).symm.trans h

end Cert.RingProof

end
-- ==== Proof.Value.lean ====
/-
# The value

At the extended reals the maximum is a least upper bound, so every order of taking it gives the same value. The maximum
of a device before the exchange bounds the magnitudes of all its products. After five rounds it bounds the magnitudes
on all thirty-two devices, which are those of the whole product. Hence every device divides by the reference's maximum,
and its result is its block of columns of the reference's.
-/
module

public import proofs.«01_k».proof.Proof.Vals
public import proofs.«01_k».proof.Proof.Gen.ReferenceIdeal.Run
public import Idealize.ShloMosaic.Lib.MatmulPlain
public import Idealize.ShloMosaic.Lib.StackMember
public import Idealize.ShloMosaic.Lib.Layout

@[expose] public section

set_option backward.proofsInPublic true

noncomputable section

namespace Cert.RingProof

open Cert.KernelIdeal Cert.KernelIdeal.Gen

open Idealize.ShloMosaic
open Idealize.ShloMosaic.TcCoe

/-! ## Maxima -/

instance maxComm : Std.Commutative (FloatOps.maximumf (F := Ideal) (φ := .f32)) := ⟨fun a b => max_comm (α := EReal) a b⟩
instance maxAssoc : Std.Associative (FloatOps.maximumf (F := Ideal) (φ := .f32)) := ⟨fun a b c => max_assoc (α := EReal) a b c⟩

theorem negInf_eq : Ideal.ofBits .f32 0xFF800000#32 = ⊥ := by simp [Ideal.ofBits, Ideal.ieee]
theorem zero_eq : Ideal.ofBits .f32 0x00000000#32 = 0 := by simp [Ideal.ofBits, Ideal.ieee]

/-- A value read as the extended real it is. -/
abbrev er (x : Ideal .f32) : EReal := x

/-- Folding the maximum from the least value gives the least upper bound. -/
theorem fold_max_le {ι : Type} (s : Finset ι) (f : ι → Ideal .f32) (b : EReal) :
    er (s.fold FloatOps.maximumf (FloatOps.ofBits (F := Ideal) .f32 0xFF800000#32) f) ≤ b ↔ ∀ i ∈ s, er (f i) ≤ b := by
  have h := Finset.fold_max_le (s := s) (f := fun i => er (f i)) (b := (⊥ : EReal)) b
  rw [← negInf_eq] at h
  exact h.trans (and_iff_right (by rw [negInf_eq]; exact bot_le))

theorem S1_sub (a b : S1.Idx) : a = b := funext fun k => by
  have : k = (0 : Fin 1) := Subsingleton.elim (α := Fin 1) _ _
  subst this
  exact Subsingleton.elim (α := Fin 1) (a 0) (b 0)

/-- `blockMax` is the least upper bound of the magnitudes. -/
theorem blockMax_le (Y : FVec Ideal S128x256 .f32) (b : EReal) :
    er (blockMax Y) ≤ b ↔ ∀ i : S128x256.Idx, er (absf Y i) ≤ b := by
  have e : blockMax Y = (Finset.univ.filter fun i => reduces_S1x128x256_S1.drop i = Shape.reshapeEquiv shapeCasts_S1_S1x1x1 (fun a => ⟨![0, 0, 0] a, inpos_S1x1x1_p0_0_0 a⟩)).fold
      FloatOps.maximumf (FloatOps.ofBits (F := Ideal) .f32 0xFF800000#32) (fun i => absf Y (Shape.reshapeEquiv shapeCasts_S128x256_S1x128x256 i)) :=
    multiReduction_maximumf_eq_fold _ _ _ (.inl rfl) rfl _
  rw [e, fold_max_le]
  constructor
  · intro h i
    have h' := h ((Shape.reshapeEquiv shapeCasts_S128x256_S1x128x256).symm i)
      (Finset.mem_filter.mpr ⟨Finset.mem_univ _, S1_sub _ _⟩)
    rwa [Equiv.apply_symm_apply] at h'
  · intro h i _
    exact h _

theorem smax_le (a c : Ideal .f32) (b : EReal) :
    er (Scalar.maximumf a c) ≤ b ↔ er a ≤ b ∧ er c ≤ b :=
  max_le_iff (α := EReal)

section Maxima

variable (X : Dev nD → Vec Ideal S128x4096 .f32) (W : Dev nD → Vec Ideal S4096x256 .f32)

theorem acc_le (c : Dev nD) (b : EReal) (h : ℕ) : er (acc X W c h) ≤ b ↔
    er (blockMax (gemm (X c) (W c))) ≤ b ∧ ∀ k < h, er (blockMax (gemm (X (origin true k c)) (W c))) ≤ b
      ∧ er (blockMax (gemm (X (origin false k c)) (W c))) ≤ b := by
  induction h with
  | zero => exact ⟨fun h => ⟨h, fun k hk => absurd hk (Nat.not_lt_zero k)⟩, fun h => h.1⟩
  | succ h ih =>
    rw [acc, smax_le, smax_le, ih]
    constructor
    · rintro ⟨⟨⟨h0, hs⟩, h1⟩, h2⟩
      refine ⟨h0, fun k hk => ?_⟩
      rcases Nat.lt_succ_iff_lt_or_eq.mp hk with hk | rfl
      · exact hs k hk
      · exact ⟨h1, h2⟩
    · rintro ⟨h0, hs⟩
      exact ⟨⟨⟨h0, fun k hk => hs k (Nat.lt_succ_of_lt hk)⟩, (hs h (Nat.lt_succ_self h)).1⟩, (hs h (Nat.lt_succ_self h)).2⟩

/-- Before the exchange a device's maximum is that of all its blocks. -/
theorem top_zero_le (c : Dev nD) (b : EReal) : er (top X W 0 c) ≤ b ↔
    ∀ e, er (blockMax (gemm (X e) (W c))) ≤ b := by
  rw [top, smax_le, acc_le]
  constructor
  · rintro ⟨⟨h0, hs⟩, h15⟩ e
    rcases covered c e with rfl | ⟨h, hh, rfl⟩ | ⟨h, hh, rfl⟩
    · exact h0
    · rcases Nat.lt_succ_iff_lt_or_eq.mp hh with hk | rfl
      · exact (hs h hk).1
      · exact h15
    · exact (hs h hh).2
  · exact fun h => ⟨⟨h _, fun k _ => ⟨h _, h _⟩⟩, h _⟩

/-- The devices whose maxima have reached device `c` before round `r`. -/
def reached : ℕ → Dev nD → List (Dev nD)
  | 0, c => [c]
  | r + 1, c => reached r c ++ reached r (pal r c)

theorem reached_all (c d : Dev nD) : d ∈ reached 5 c := by revert c d; decide +kernel

theorem top_le (r : ℕ) (c : Dev nD) (b : EReal) : er (top X W r c) ≤ b ↔
    ∀ d ∈ reached r c, er (top X W 0 d) ≤ b := by
  induction r generalizing c with
  | zero => simp only [reached, List.mem_singleton, forall_eq]
  | succ r ih =>
    rw [top, smax_le, ih, ih]
    simp only [reached, List.mem_append, or_imp, forall_and]

/-- After the exchange every device's maximum is that of all blocks of all devices. -/
theorem top_last_le (c : Dev nD) (b : EReal) : er (top X W 5 c) ≤ b ↔
    ∀ d e, ∀ i, er (absf (gemm (X e) (W d)) i) ≤ b := by
  rw [top_le]
  simp only [top_zero_le, blockMax_le]
  exact ⟨fun h d => h d (reached_all c d), fun h d _ => h d⟩

end Maxima

/-! ## The whole product -/

section Whole

variable (A : FVec Ideal Cert.ReferenceIdeal.S4096x4096 .f32) (B : FVec Ideal Cert.ReferenceIdeal.S4096x8192 .f32)

/-- The reference's product, -/
def whole : FVec Ideal Cert.ReferenceIdeal.S4096x8192 .f32 :=
  Host.dotGeneral Cert.ReferenceIdeal.dot_S4096x4096_S4096x8192_S4096x8192_1_0_0_1_n_n none A B

/-- its largest magnitude -/
def wholeMax : FVec Ideal Cert.ReferenceIdeal.S_ .f32 :=
  Host.reduce FloatOps.maximumf (Host.absf (whole A B)) (constant Cert.ReferenceIdeal.S_ .f32 0xFF800000#32)
    Cert.ReferenceIdeal.Facts₀.reducesTo_S4096x8192_S_d0_1 Cert.ReferenceIdeal.Facts₀.h_S_

/-- and the reference's result. -/
def wholeResult : FVec Ideal Cert.ReferenceIdeal.S4096x8192 .f32 :=
  mulf (minimumf (broadcastInDim Cert.ReferenceIdeal.S4096x8192 ![] Cert.ReferenceIdeal.Facts₀.bcast_S_S4096x8192 (id (constant Cert.ReferenceIdeal.S_ .f32 0x42FE0000#32)))
    (maximumf (broadcastInDim Cert.ReferenceIdeal.S4096x8192 ![] Cert.ReferenceIdeal.Facts₀.bcast_S_S4096x8192 (id (constant Cert.ReferenceIdeal.S_ .f32 0xC2FE0000#32)))
      (Host.roundeven (Host.divf (whole A B) (broadcastInDim Cert.ReferenceIdeal.S4096x8192 ![] Cert.ReferenceIdeal.Facts₀.bcast_S_S4096x8192
        (Host.divf (wholeMax A B) (constant Cert.ReferenceIdeal.S_ .f32 0x42FE0000#32)))))))
    (broadcastInDim Cert.ReferenceIdeal.S4096x8192 ![] Cert.ReferenceIdeal.Facts₀.bcast_S_S4096x8192
      (Host.divf (wholeMax A B) (constant Cert.ReferenceIdeal.S_ .f32 0x42FE0000#32)))

theorem wholeMax_le (j : Cert.ReferenceIdeal.S_.Idx) (b : EReal) : er (wholeMax A B j) ≤ b ↔
    ∀ i, er (Host.absf (whole A B) i) ≤ b := by
  unfold wholeMax
  rw [Host.reduce_eq_fold]
  refine (fold_max_le _ _ b).trans ⟨fun h i => h i (Finset.mem_filter.mpr ⟨Finset.mem_univ _, ?_⟩), fun h i _ => h i⟩
  exact funext fun k : Fin 0 => k.elim0

/-- An entry of a block's product is a sum over the inner dimension, -/
theorem gemm_apply (P : Vec Ideal S128x4096 .f32) (Q : Vec Ideal S4096x256 .f32) (r : Fin 128) (s : Fin 256) :
    er (gemm P Q (ix2 r s)) = ∑ k : Fin 4096, er (P (ix2 r k)) * er (Q (ix2 k s)) := by
  have h := Ideal.matmul_plain_apply (φ₁ := .f32) (φ₂ := .f32) (some .fp32) P Q (constant S128x256 .f32 0x00000000#32) r s
  refine h.trans ?_
  exact (congrArg (fun v : EReal => v + ∑ k : Fin 4096, er (P (ix2 r k)) * er (Q (ix2 k s))) zero_eq).trans (zero_add _)

/-- and so is an entry of the whole product. -/
theorem whole_apply (r : Fin 4096) (s : Fin 8192) :
    er (whole A B (ix2 r s)) = ∑ k : Fin 4096, er (A (ix2 r k)) * er (B (ix2 k s)) :=
  StackMember.dotGeneral_plain_apply none A B r s

variable (X : Dev nD → Vec Ideal S128x4096 .f32) (W : Dev nD → Vec Ideal S4096x256 .f32)

/-- The place of row `r`, column `s` of device `d`'s product with block `e`. -/
def place (d e : Dev nD) (r : Fin 128) (s : Fin 256) : Cert.ReferenceIdeal.S4096x8192.Idx :=
  ix2 ⟨e.val * 128 + r.val, by have := e.isLt; have := r.isLt; simp only [nD] at *; omega⟩
    ⟨d.val * 256 + s.val, by have := d.isLt; have := s.isLt; simp only [nD] at *; omega⟩

variable (hX : ∀ c, X c = Layout.block ⟨2, ![128, 4096]⟩ ⟨2, ![4096, 4096]⟩ 0 32 c A)
variable (hW : ∀ c, W c = Layout.block ⟨2, ![4096, 256]⟩ ⟨2, ![4096, 8192]⟩ 1 32 c B)

include hX hW

theorem gemm_place (d e : Dev nD) (r : Fin 128) (s : Fin 256) :
    gemm (X e) (W d) (ix2 r s) = whole A B (place d e r s) := by
  refine (gemm_apply (X e) (W d) r s).trans ((whole_apply A B _ _).trans ?_).symm
  refine Finset.sum_congr rfl fun k _ => ?_
  rw [hX, hW]
  refine congrArg₂ (fun a b : EReal => a * b) (congrArg A ?_) (congrArg B ?_)
  · exact funext fun a => Fin.ext (by match a with | ⟨0, _⟩ => rfl | ⟨1, _⟩ => rfl)
  · exact funext fun a => Fin.ext (by match a with | ⟨0, _⟩ => rfl | ⟨1, _⟩ => rfl)

/-- Every device ends with the maximum of the whole product. -/
theorem top_eq (c : Dev nD) (j : Cert.ReferenceIdeal.S_.Idx) : top X W 5 c = wholeMax A B j := by
  refine eq_of_forall_ge_iff (α := EReal) fun b => ?_
  refine (top_last_le X W c b).trans ((wholeMax_le A B j b).trans ⟨fun h d e i => ?_, fun h i => ?_⟩).symm
  · have hi := h (place d e (i 0) (i 1))
    have hg := gemm_place A B X W hX hW d e (i 0) (i 1)
    rw [show (ix2 (i 0) (i 1) : S128x256.Idx) = i from ix2_eta i] at hg
    exact (congrArg (fun v : EReal => max v (-v)) hg).trans_le hi
  · have h0 : (i 0).val < 4096 := (i 0).isLt
    have h1 : (i 1).val < 8192 := (i 1).isLt
    let e : Dev nD := ⟨(i 0).val / 128, Nat.div_lt_of_lt_mul h0⟩
    let d : Dev nD := ⟨(i 1).val / 256, Nat.div_lt_of_lt_mul h1⟩
    let r : Fin 128 := ⟨(i 0).val % 128, Nat.mod_lt _ (by decide)⟩
    let s : Fin 256 := ⟨(i 1).val % 256, Nat.mod_lt _ (by decide)⟩
    have hp : place d e r s = i := funext fun a => Fin.ext (by
      match a with
      | ⟨0, _⟩ => show (i 0).val / 128 * 128 + (i 0).val % 128 = (i 0).val; omega
      | ⟨1, _⟩ => show (i 1).val / 256 * 256 + (i 1).val % 256 = (i 1).val; omega)
    have hg := gemm_place A B X W hX hW d e r s
    rw [hp] at hg
    exact (congrArg (fun v : EReal => max v (-v)) hg).symm.trans_le (h d e (ix2 r s))

/-- A device's products are its columns of the whole product. -/
theorem prods_eq (c : Dev nD) (i : S4096x256.Idx) :
    prods X W c i = (Layout.block ⟨2, ![4096, 256]⟩ ⟨2, ![4096, 8192]⟩ 1 32 c (whole A B) : S4096x256.Idx → Ideal .f32) i := by
  have hg := gemm_place A B X W hX hW c (rowDev i) (rowIn i 0) (rowIn i 1)
  rw [show (ix2 (rowIn i 0) (rowIn i 1) : S128x256.Idx) = rowIn i from ix2_eta _] at hg
  refine hg.trans (congrArg (whole A B) (funext fun a => Fin.ext ?_))
  match a with
  | ⟨0, _⟩ => show (i 0).val / 128 * 128 + (i 0).val % 128 = (i 0).val; omega
  | ⟨1, _⟩ => rfl

/-- A device's result is its columns of the reference's result. -/
theorem result_eq (c : Dev nD) :
    result X W c = Layout.block ⟨2, ![4096, 256]⟩ ⟨2, ![4096, 8192]⟩ 1 32 c (wholeResult A B) := by
  funext i
  have hp := prods_eq A B X W hX hW c i
  unfold result quant
  rw [top_eq A B X W hX hW c (fun k : Fin 0 => k.elim0)]
  show FloatOps.mulf (FloatOps.minimumf _ (FloatOps.maximumf _ (FloatOps.roundeven (FloatOps.divf (prods X W c i) _)))) _ = _
  rw [hp]
  rfl

end Whole

end Cert.RingProof

end
-- ==== Proof.lean ====
/-
# The proof of the claims

The frames of the kernel from `Launch`, the frame of the reference from its generated run, and the value from `Value`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.RingProof

theorem frame_ideal : Cert.quiescent_KernelIdeal := fun m ρ _ =>
  (θ_run Cert.KernelIdeal.defs _ _).mono
    (fun _ h => ⟨fun c => ⟨(h.1 c (0 : Fin 3)).trans (final_x m ρ c), (h.1 c (1 : Fin 3)).trans (final_w m ρ c)⟩, h.2⟩)
    (run_main (F := Ideal) m ρ)

/-! The kernel and its ideal form are one text, so the same run gives both frames. -/

section Same

attribute [local instance] Cert.Kernel.Gen.facts Cert.KernelIdeal.Gen.facts

theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

theorem defs_eq : Cert.Kernel.defs (F := Bits) = Cert.KernelIdeal.defs (F := Bits) :=
  congrArg (Pipeline.defs Cert.KernelIdeal.pcfgs) bodies_eq

theorem frame_kernel : Cert.quiescent_Kernel := by
  intro m ρ _
  rw [defs_eq]
  exact (θ_run Cert.KernelIdeal.defs _ _).mono
    (fun _ h => ⟨fun c => ⟨(h.1 c (0 : Fin 3)).trans (final_x m ρ c), (h.1 c (1 : Fin 3)).trans (final_w m ρ c)⟩, h.2⟩)
    (run_main (F := Bits) m ρ)

end Same

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Each device's result is its block of columns of the reference's. -/
theorem value_ideal : Cert.algebraic_KernelIdeal_ReferenceIdeal := by
  intro m ρ m' ρ' _ hagree
  refine ⟨wholeResult (m' ((0 : Dev Cert.ReferenceIdeal.nD).tc.loc Cert.ReferenceIdeal.main_arg0))
    (m' ((0 : Dev Cert.ReferenceIdeal.nD).tc.loc Cert.ReferenceIdeal.main_arg1)), ?_, ?_⟩
  · refine (θ_run Cert.KernelIdeal.defs _ _).mono (fun _ h c => ⟨?_, (h.1 c (0 : Fin 3)).trans (final_x m ρ c),
      (h.1 c (1 : Fin 3)).trans (final_w m ρ c)⟩) (run_main (F := Ideal) m ρ)
    exact ((h.1 c (2 : Fin 3)).trans (final_o m ρ c)).trans
      (result_eq _ _ _ _ (fun c => (hagree c).1) (fun c => (hagree c).2) c)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value_ideal⟩

end Cert.Proof

end
